-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S16384x13 : Shape := ⟨2, ![16384, 13]⟩
abbrev S16384x26 : Shape := ⟨2, ![16384, 26]⟩
abbrev S26x100000x16 : Shape := ⟨3, ![26, 100000, 16]⟩
abbrev S429x128 : Shape := ⟨2, ![429, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : FVec F S16384x13 .f32) (main_arg1 : IVec S16384x26 32) (main_arg2 : FVec F S26x100000x16 .f32) (main_arg3 : FVec F S429x128 .f32) (main_arg4 : FVec F S128 .f32) (main_arg5 : FVec F S128x64 .f32) (main_arg6 : FVec F S64 .f32) (main_arg7 : FVec F S64x1 .f32) (main_arg8 : FVec F S1 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg1 main_v0
  let main_c_0 : IVec S_ 32 := constantI S_ 32 100000#32
  let main_v2 : IVec S16384x26 32 := broadcastInDim S16384x26 ![] bcast_S_S16384x26 main_c_0
  let main_v3 : IVec S16384x26 1 := cmpi .slt main_arg1 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x13 : Shape := ⟨2, ![16384, 13]⟩
abbrev S16384x26 : Shape := ⟨2, ![16384, 26]⟩
abbrev S26x100000x16 : Shape := ⟨3, ![26, 100000, 16]⟩
abbrev S429x128 : Shape := ⟨2, ![429, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S26 : Shape := ⟨1, ![26]⟩
abbrev S1x26 : Shape := ⟨2, ![1, 26]⟩
abbrev S_ : Shape := ⟨0, ![]⟩
abbrev S425984 : Shape := ⟨1, ![425984]⟩
abbrev S26x16x100000 : Shape := ⟨3, ![26, 16, 100000]⟩
abbrev S1x16x12800 : Shape := ⟨3, ![1, 16, 12800]⟩
abbrev S1x12800x16 : Shape := ⟨3, ![1, 12800, 16]⟩
abbrev S16x12800 : Shape := ⟨2, ![16, 12800]⟩
abbrev S12800x16 : Shape := ⟨2, ![12800, 16]⟩
abbrev S2600000x16 : Shape := ⟨2, ![2600000, 16]⟩
abbrev S425984x16 : Shape := ⟨2, ![425984, 16]⟩
abbrev S3328 : Shape := ⟨1, ![3328]⟩
abbrev S3328x16 : Shape := ⟨2, ![3328, 16]⟩
abbrev S16384x416 : Shape := ⟨2, ![16384, 416]⟩
abbrev S13x128 : Shape := ⟨2, ![13, 128]⟩
abbrev S416x128 : Shape := ⟨2, ![416, 128]⟩
abbrev S1x128 : Shape := ⟨2, ![1, 128]⟩
abbrev S1x64 : Shape := ⟨2, ![1, 64]⟩
abbrev S1x1 : Shape := ⟨2, ![1, 1]⟩
abbrev S16384x1 : Shape := ⟨2, ![16384, 1]⟩
abbrev S2048x13 : Shape := ⟨2, ![2048, 13]⟩
abbrev S2048x416 : Shape := ⟨2, ![2048, 416]⟩
abbrev S2048x1 : Shape := ⟨2, ![2048, 1]⟩
abbrev S2048x128 : Shape := ⟨2, ![2048, 128]⟩
abbrev S2048x64 : Shape := ⟨2, ![2048, 64]⟩

abbrev nBuf : Table → Nat
  | .hbm => 28
  | .local .tc .vmem => 17
  | .local .scVector .vmem => 2
  | _ => 0

abbrev bufTy : (tb : Table) → Fin (nBuf tb) → BufTy
  | .hbm, ⟨0, _⟩ => ⟨S16384x13, .f32⟩
  | .hbm, ⟨1, _⟩ => ⟨S16384x26, .i32⟩
  | .hbm, ⟨2, _⟩ => ⟨S26x100000x16, .f32⟩
  | .hbm, ⟨3, _⟩ => ⟨S429x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S26, .i32⟩
  | .hbm, ⟨10, _⟩ => ⟨S1x26, .i32⟩
  | .hbm, ⟨11, _⟩ => ⟨S_, .i32⟩
  | .hbm, ⟨12, _⟩ => ⟨S1x26, .i32⟩
  | .hbm, ⟨13, _⟩ => ⟨S1x26, .i32⟩
  | .hbm, ⟨14, _⟩ => ⟨S16384x26, .i32⟩
  | .hbm, ⟨15, _⟩ => ⟨S16384x26, .i32⟩
  | .hbm, ⟨16, _⟩ => ⟨S425984, .i32⟩
  | .hbm, ⟨17, _⟩ => ⟨S26x16x100000, .f32⟩
  | .hbm, ⟨18, _⟩ => ⟨S26x100000x16, .f32⟩
  | .hbm, ⟨19, _⟩ => ⟨S2600000x16, .f32⟩
  | .hbm, ⟨20, _⟩ => ⟨S425984x16, .f32⟩
  | .hbm, ⟨21, _⟩ => ⟨S16384x416, .f32⟩
  | .hbm, ⟨22, _⟩ => ⟨S13x128, .f32⟩
  | .hbm, ⟨23, _⟩ => ⟨S416x128, .f32⟩
  | .hbm, ⟨24, _⟩ => ⟨S1x128, .f32⟩
  | .hbm, ⟨25, _⟩ => ⟨S1x64, .f32⟩
  | .hbm, ⟨26, _⟩ => ⟨S1x1, .f32⟩
  | .hbm, ⟨27, _⟩ => ⟨S16384x1, .f32⟩
  | .local .tc .vmem, ⟨0, _⟩ => ⟨S1x16x12800, .f32⟩
  | .local .tc .vmem, ⟨1, _⟩ => ⟨S1x16x12800, .f32⟩
  | .local .tc .vmem, ⟨2, _⟩ => ⟨S1x12800x16, .f32⟩
  | .local .tc .vmem, ⟨3, _⟩ => ⟨S1x12800x16, .f32⟩
  | .local .tc .vmem, ⟨4, _⟩ => ⟨S2048x13, .f32⟩
  | .local .tc .vmem, ⟨5, _⟩ => ⟨S2048x13, .f32⟩
  | .local .tc .vmem, ⟨6, _⟩ => ⟨S2048x416, .f32⟩
  | .local .tc .vmem, ⟨7, _⟩ => ⟨S2048x416, .f32⟩
  | .local .tc .vmem, ⟨8, _⟩ => ⟨S13x128, .f32⟩
  | .local .tc .vmem, ⟨9, _⟩ => ⟨S416x128, .f32⟩
  | .local .tc .vmem, ⟨10, _⟩ => ⟨S1x128, .f32⟩
  | .local .tc .vmem, ⟨11, _⟩ => ⟨S128x64, .f32⟩
  | .local .tc .vmem, ⟨12, _⟩ => ⟨S1x64, .f32⟩
  | .local .tc .vmem, ⟨13, _⟩ => ⟨S64x1, .f32⟩
  | .local .tc .vmem, ⟨14, _⟩ => ⟨S1x1, .f32⟩
  | .local .tc .vmem, ⟨15, _⟩ => ⟨S2048x1, .f32⟩
  | .local .tc .vmem, ⟨16, _⟩ => ⟨S2048x1, .f32⟩
  | .local .scVector .vmem, ⟨0, _⟩ => ⟨S3328, .i32⟩
  | .local .scVector .vmem, ⟨1, _⟩ => ⟨S3328x16, .f32⟩
  | _, _ => ⟨S16384x13, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v6_scv : Ref sig .scVector := ⟨.hbm, 16, rfl⟩
abbrev main_v9_scv : Ref sig .scVector := ⟨.hbm, 19, rfl⟩
abbrev main_v10_scv : Ref sig .scVector := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg5_0 : Ref sig .tc := ⟨.vmem, 11, rfl⟩
abbrev cc2_stg6_0 : Ref sig .tc := ⟨.vmem, 12, rfl⟩
abbrev cc2_stg7_0 : Ref sig .tc := ⟨.vmem, 13, rfl⟩
abbrev cc2_stg8_0 : Ref sig .tc := ⟨.vmem, 14, rfl⟩
abbrev cc2_stg9_0 : Ref sig .tc := ⟨.vmem, 15, rfl⟩
abbrev cc2_stg9_1 : Ref sig .tc := ⟨.vmem, 16, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem9_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![26, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x12800x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let v3 : BitVec 32 := Scalar.addi v2 c0_i32
  ![v3.toNat]
def k1_off2 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let v3 : BitVec 32 := Scalar.addi v2 c0_i32
  let c0_i32_16_r1 : BitVec 32 := 0#32
  ![v3.toNat, 0]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x13 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x416 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S13x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S416x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2048x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x13 : Shape := ⟨2, ![16384, 13]⟩
abbrev S16384x26 : Shape := ⟨2, ![16384, 26]⟩
abbrev S26x100000x16 : Shape := ⟨3, ![26, 100000, 16]⟩
abbrev S429x128 : Shape := ⟨2, ![429, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S26 : Shape := ⟨1, ![26]⟩
abbrev S26x1 : Shape := ⟨2, ![26, 1]⟩
abbrev S26x16384 : Shape := ⟨2, ![26, 16384]⟩
abbrev S_ : Shape := ⟨0, ![]⟩
abbrev S26x16384x1 : Shape := ⟨3, ![26, 16384, 1]⟩
abbrev S26x16384x2 : Shape := ⟨3, ![26, 16384, 2]⟩
abbrev S26x16384x16 : Shape := ⟨3, ![26, 16384, 16]⟩
abbrev S16384x26x16 : Shape := ⟨3, ![16384, 26, 16]⟩
abbrev S16384x416 : Shape := ⟨2, ![16384, 416]⟩
abbrev S16384x429 : Shape := ⟨2, ![16384, 429]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩
abbrev S16384x1 : Shape := ⟨2, ![16384, 1]⟩
abbrev S1x1 : Shape := ⟨2, ![1, 1]⟩

abbrev nBuf : Space → Nat
  | .hbm => 52
  | .vmem => 0
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S26x100000x16, .f32⟩
  | .hbm, ⟨3, _⟩ => ⟨S429x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S26, .i32⟩
  | .hbm, ⟨10, _⟩ => ⟨S26x1, .i32⟩
  | .hbm, ⟨11, _⟩ => ⟨S26x16384, .i32⟩
  | .hbm, ⟨12, _⟩ => ⟨S_, .i32⟩
  | .hbm, ⟨13, _⟩ => ⟨S26x1, .i32⟩
  | .hbm, ⟨14, _⟩ => ⟨S26x1, .i1⟩
  | .hbm, ⟨15, _⟩ => ⟨S_, .i32⟩
  | .hbm, ⟨16, _⟩ => ⟨S26x1, .i32⟩
  | .hbm, ⟨17, _⟩ => ⟨S26x1, .i32⟩
  | .hbm, ⟨18, _⟩ => ⟨S26x1, .i32⟩
  | .hbm, ⟨19, _⟩ => ⟨S_, .i32⟩
  | .hbm, ⟨20, _⟩ => ⟨S26x16384, .i32⟩
  | .hbm, ⟨21, _⟩ => ⟨S26x16384, .i1⟩
  | .hbm, ⟨22, _⟩ => ⟨S_, .i32⟩
  | .hbm, ⟨23, _⟩ => ⟨S26x16384, .i32⟩
  | .hbm, ⟨24, _⟩ => ⟨S26x16384, .i32⟩
  | .hbm, ⟨25, _⟩ => ⟨S26x16384, .i32⟩
  | .hbm, ⟨26, _⟩ => ⟨S26x16384, .i32⟩
  | .hbm, ⟨27, _⟩ => ⟨S26x16384x1, .i32⟩
  | .hbm, ⟨28, _⟩ => ⟨S26x16384x1, .i32⟩
  | .hbm, ⟨29, _⟩ => ⟨S26x16384x2, .i32⟩
  | .hbm, ⟨30, _⟩ => ⟨S26x16384x16, .f32⟩
  | .hbm, ⟨31, _⟩ => ⟨S16384x26x16, .f32⟩
  | .hbm, ⟨32, _⟩ => ⟨S16384x416, .f32⟩
  | .hbm, ⟨33, _⟩ => ⟨S16384x429, .f32⟩
  | .hbm, ⟨34, _⟩ => ⟨S16384x128, .f32⟩
  | .hbm, ⟨35, _⟩ => ⟨S1x128, .f32⟩
  | .hbm, ⟨36, _⟩ => ⟨S16384x128, .f32⟩
  | .hbm, ⟨37, _⟩ => ⟨S16384x128, .f32⟩
  | .hbm, ⟨38, _⟩ => ⟨S_, .f32⟩
  | .hbm, ⟨39, _⟩ => ⟨S16384x128, .f32⟩
  | .hbm, ⟨40, _⟩ => ⟨S16384x128, .f32⟩
  | .hbm, ⟨41, _⟩ => ⟨S16384x64, .f32⟩
  | .hbm, ⟨42, _⟩ => ⟨S1x64, .f32⟩
  | .hbm, ⟨43, _⟩ => ⟨S16384x64, .f32⟩
  | .hbm, ⟨44, _⟩ => ⟨S16384x64, .f32⟩
  | .hbm, ⟨45, _⟩ => ⟨S_, .f32⟩
  | .hbm, ⟨46, _⟩ => ⟨S16384x64, .f32⟩
  | .hbm, ⟨47, _⟩ => ⟨S16384x64, .f32⟩
  | .hbm, ⟨48, _⟩ => ⟨S16384x1, .f32⟩
  | .hbm, ⟨49, _⟩ => ⟨S1x1, .f32⟩
  | .hbm, ⟨50, _⟩ => ⟨S16384x1, .f32⟩
  | .hbm, ⟨51, _⟩ => ⟨S16384x1, .f32⟩
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call1_cst : Ref sig .tc := ⟨.hbm, 45, rfl⟩
abbrev main_call1_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Proof.Exact.Setup.lean ====
/-
  The program as the launch theorem of a SparseCore call sees it: the call's configuration `K`, the label definitions `D`
  it runs over, the facts on its semaphores, and the resource algebra of the proof. That algebra has three components side
  by side: the handshake's rounds (between the TensorCore, the sequencers and the tiles), the rounds of the two
  TensorCore pipelines' staging cells, and the counters of the tiles' own copies.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.RegionArrays
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The call and the definitions it runs over -/

/-- The labels of the program with its two pipelines. -/
abbrev ΛP [FloatOps F] : Labels := Pipeline.Sig Λ₀ (Fin 2) fun p => (pcfgs (F := F) p).Adm
/-- The SparseCore call's configuration. -/
abbrev K [FloatOps F] : SparseCore.Cfg τ sig (ΛP (F := F)) 1 := sc (F := F)
/-- The definitions the call runs over: the pipelines'. -/
abbrev D [FloatOps F] : Defs nD τ sig (Elt F) (ΛP (F := F)) := Pipeline.defs pcfgs defs₀
/-- No loop needs a variant. -/
abbrev 𝒱₀ : Variants := Variants.none
/-- The same over the pipelines' labels. -/
abbrev 𝒱 : Variants := 𝒱₀.lift
/-- The variant every thread starts from. -/
abbrev v₀ : 𝒱.V := Sum.inl none

/-- The handshake's semaphores are distinct where they must be and none of them is scoped; no tile-shared buffer is a
    sequencer's. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshake's rounds. -/
abbrev UH : Type := URounds (GSem nD τ sig) ℕ
/-- The staging cells' rounds. -/
abbrev UP : Type := URounds (GSem nD τ sig) Unit
/-- Both, and the counters. -/
abbrev UU : Type := UH × (UP × Counters)

local notation "𝕄" => MT nD τ sig (HIx 1) (Elt F) ℕ UU ℕ

/-- Where the handshake's rounds live. -/
abbrev EH : Emb UH (MT nD τ sig (HIx 1) (Elt F) ℕ UU ℕ) := embL
/-- Where the staging cells' rounds live: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
/-- The staging cells' rounds lie in the user's part of the model. -/
instance EP_landsIn : (EP : Emb UP 𝕄).LandsIn (upEmb : UEmb _ 𝕄) := by unfold EP; infer_instance

/-- A launch element with nothing in the counters splits into the handshake's part and the staging cells' part. -/
theorem own_split (a : UH) (b : UP) : (ownU ((a, (b, 1)) : UU) : sProp 𝕄) ⊢ iprop(BI.own (EH a) ∗ BI.own (EP b)) :=
  ownU_pair a (b, 1)

/-- The pipelines with no prefetched table: the one choice of table contents. -/
abbrev adm [FloatOps F] : (p : Fin 2) → (pcfgs (F := F) p).Adm := fun p => (cfgs p).toPCfg_adm

end Cert.KernelIdeal.Proof

end
-- ==== Proof.Exact.Chunk.lean ====
/-
  One chunk of one tile's work: 3328 row numbers fetched from the index list into the tile's memory, the table's rows of
  those numbers gathered there by the indirect stream, and the gathered rows copied out to the chunk's rows of the result.
  The lemma is stated once, for any tile, any of its four chunks and any pair of copy semaphores.
-/
module

public import proofs.«01_k».proof.Proof.Exact.Setup
public import Idealize.ShloMosaic.Lib.Pointwise.Index

@[expose] public section

noncomputable section

namespace Cert.KernelIdeal.Proof

open Cert.KernelIdeal Cert.KernelIdeal.Gen

open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays of the call, as the TensorCore and as a tile name them -/

/-- The index list, the table and the result of device `d`. -/
abbrev iLoc (d : Dev nD) : Loc nD τ sig := (SparseCore.T d).loc main_v6
/-- The table. -/
abbrev bLoc (d : Dev nD) : Loc nD τ sig := (SparseCore.T d).loc main_v9
/-- The result. -/
abbrev oLoc (d : Dev nD) : Loc nD τ sig := (SparseCore.T d).loc main_v10

local notation "iV" => (Memref.whole Cert.KernelIdeal.main_v6_scv : Memref Cert.KernelIdeal.sig Kind.scVector Space.hbm Cert.KernelIdeal.S425984 EltTy.i32)
local notation "bV" => (Memref.whole Cert.KernelIdeal.main_v9_scv : Memref Cert.KernelIdeal.sig Kind.scVector Space.hbm Cert.KernelIdeal.S2600000x16 EltTy.f32)
local notation "oV" => (Memref.whole Cert.KernelIdeal.main_v10_scv : Memref Cert.KernelIdeal.sig Kind.scVector Space.hbm Cert.KernelIdeal.S425984x16 EltTy.f32)
local notation "sV" => (Memref.whole Cert.KernelIdeal.cc1_scratch0 : Memref Cert.KernelIdeal.sig Kind.scVector Space.vmem Cert.KernelIdeal.S3328 EltTy.i32)
local notation "rV" => (Memref.whole Cert.KernelIdeal.cc1_scratch1 : Memref Cert.KernelIdeal.sig Kind.scVector Space.vmem Cert.KernelIdeal.S3328x16 EltTy.f32)

/-- The SparseCore and the subcore of the tile at grid coordinates `L`. -/
abbrev cV (L : grid1.Coords) : Fin τ.nSC := (L 0).castLE hcore1
/-- Its subcore. -/
abbrev jV (L : grid1.Coords) : Fin τ.nSub := (L 1).castLE hsub1
/-- The tile as a thread. -/
abbrev tile (d : Dev nD) (L : grid1.Coords) : Thread nD τ := V d (cV L) (jV L)

/-! ## What the gather leaves -/

/-- A row number, as a row of the table. (Every number of the list is in range where this is used.) -/
def rowOf (w : BitVec 32) : Fin 2600000 := ⟨w.toNat % 2600000, Nat.mod_lt _ (by decide)⟩

/-- The gathered rows: row `n` of the result is the table's row of the number that stands at place `n` of the list. -/
def gathered (I : S425984.Idx → Elt F .i32) (B : S2600000x16.Idx → Elt F .f32) : S425984x16.Idx → Elt F .f32 :=
  fun j => B (ix2 (rowOf (I (ix1 (j 0)))) (j 1))

/-! ## Chunk `r` of the tile at `L` -/

/-- Where chunk `r` begins within its tile's part of the list. -/
abbrev off (r : Fin 4) : BitVec 32 := BitVec.ofNat 32 (3328 * r.val)
/-- The chunk's places in the list. -/
abbrev iRect (L : grid1.Coords) (r : Fin 4) : Rect S425984 := Rect.unit (s := S425984) (k1_off1 L (off r)) S3328.size (k1_off1_inb L r)
/-- The chunk's rows in the result. -/
abbrev oRect (L : grid1.Coords) (r : Fin 4) : Rect S425984x16 := Rect.unit (s := S425984x16) (k1_off2 L (off r)) S3328x16.size (k1_off2_inb L r)
/-- The chunk's numbers, the whole table and the chunk's rows, as the tile addresses them. -/
abbrev iPart (L : grid1.Coords) (r : Fin 4) : Memref sig .scVector .hbm S3328 .i32 := (iV).slice (iRect L r) (fun _ => rfl)
/-- The whole table, as the tile addresses it. -/
abbrev bAll : Memref sig .scVector .hbm S2600000x16 .f32 := (bV).slice (Rect.unit (s := S2600000x16) ![0, 0] S2600000x16.size inb_S2600000x16_S2600000x16_0_0) (fun _ => rfl)
/-- The chunk's rows, as the tile addresses them. -/
abbrev oPart (L : grid1.Coords) (r : Fin 4) : Memref sig .scVector .hbm S3328x16 .f32 := (oV).slice (oRect L r) (fun _ => rfl)

/-- The chunk's statements, over its two copy semaphores. -/
def chunk [FloatOps F] (L : grid1.Coords) (r : Fin 4) (sA sB sG : DmaSems sig S_) :
    Prog (TpuEff nD τ sig (Elt F) Λ₀ (.scVector ((L 0).castLE hcore1) ((L 1).castLE hsub1))) PUnit := do
  Prog.lift (.enqueueDma (iPart L r) (.here sV) (.dma sA.sem) (View.wordExact_bits rfl) (Memref.isWhole_whole _).wordExact ⟨Or.inl rfl, trivial⟩)
  Prog.lift (.waitDma2 sA.sem (iPart L r) sV (View.wordExact_bits rfl) (Memref.isWhole_whole _).wordExact)
  SparseCore.enqueueIndirectGather rfl bAll rV gathers_S2600000x16_S3328x16 sV rfl sG.sem (View.wordExact_bits rfl) rfl (Or.inl rfl)
  SparseCore.waitIndirectGather sG.sem bAll rV (View.wordExact_bits rfl) (Memref.isWhole_whole _).wordExact
  Prog.lift (.enqueueDma rV (.here (oPart L r)) (.dma sB.sem) (Memref.isWhole_whole _).wordExact (View.wordExact_bits rfl) ⟨Or.inl rfl, trivial⟩)
  Prog.lift (.waitDma2 sB.sem rV (oPart L r) (Memref.isWhole_whole _).wordExact (View.wordExact_bits rfl))

/-- The tile's body is its four chunks in order. -/
theorem body_eq_chunks [FloatOps F] (L : grid1.Coords) :
    cc1__sc_gather (F := F) L iV (Memref.isWhole_whole _) bV (Memref.isWhole_whole _) oV (Memref.isWhole_whole _)
        sV (Memref.isWhole_whole _) rV (Memref.isWhole_whole _) cc1_scratch2 cc1_scoped0 cc1_scoped1 cc1_scoped2 cc1_scoped3
        cc1_scoped4 cc1_scoped5 cc1_scoped6 cc1_scoped7
      = (chunk L 0 cc1_scoped0 cc1_scoped1 cc1_scratch2 >>= fun _ => chunk L 1 cc1_scoped2 cc1_scoped3 cc1_scratch2 >>= fun _ =>
          chunk L 2 cc1_scoped4 cc1_scoped5 cc1_scratch2 >>= fun _ => chunk L 3 cc1_scoped6 cc1_scoped7 cc1_scratch2) := rfl

/-! ## The pieces of the arrays, chunk by chunk -/

/-- The list falls into 128 equal parts. -/
theorem idiv : 128 ∣ S425984.size 0 := ⟨3328, rfl⟩
/-- So do the result's rows. -/
theorem odiv : 128 ∣ S425984x16.size 0 := ⟨3328, rfl⟩
/-- The `k`-th of the 128 equal parts of the index list, and of the result's rows. -/
abbrev iSet (k : Fin 128) : Finset S425984.Idx := (Rect.part (s := S425984) (a₀ := 0) idiv k).set
/-- The `k`-th of the 128 equal parts of the result's rows. -/
abbrev oSet (k : Fin 128) : Finset S425984x16.Idx := (Rect.part (s := S425984x16) (a₀ := 0) odiv k).set

/-- The tile's number among the 32, and its chunk `r`'s number among the 128. -/
def tileNo (c : Fin 2) (s : Fin 16) : Fin 32 := ⟨s.val * 2 + c.val, by omega⟩
/-- Chunk `r`'s number among the 128. -/
def chunkNo (c : Fin 2) (s : Fin 16) (r : Fin 4) : Fin 128 := ⟨(s.val * 2 + c.val) * 4 + r.val, by omega⟩
/-- The tile's SparseCore. -/
abbrev cN (L : grid1.Coords) : Fin 2 := L 0
/-- The tile's number on its SparseCore. -/
abbrev sN (L : grid1.Coords) : Fin 16 := L 1

/-- A chunk's places in the list are the part of its number. -/
theorem iRect_eq (L : grid1.Coords) (r : Fin 4) : iRect L r = Rect.part (s := S425984) (a₀ := 0) idiv (chunkNo (cN L) (sN L) r) := by
  unfold iRect Rect.part Rect.block
  congr 1 <;> funext a
  · rw [k1_off1_eq]
    match a with
    | 0 => simp only [Shape.partIx, Shape.partSize, chunkNo, cN, sN]; simp; omega
  · match a with
    | 0 => simp [Shape.partSize]
/-- A chunk's rows in the result are the part of its number. -/
theorem oRect_eq (L : grid1.Coords) (r : Fin 4) : oRect L r = Rect.part (s := S425984x16) (a₀ := 0) odiv (chunkNo (cN L) (sN L) r) := by
  unfold oRect Rect.part Rect.block
  congr 1 <;> funext a
  · rw [k1_off2_eq]
    match a with
    | 0 => simp only [Shape.partIx, Shape.partSize, chunkNo, cN, sN]; simp; omega
    | 1 => simp [Shape.partIx, Shape.partSize]
  · match a with
    | 0 => simp [Shape.partSize]
    | 1 => simp [Shape.partSize]

/-- The elements under the chunk's view of the list. -/
theorem set_iPart (L : grid1.Coords) (r : Fin 4) : (iPart L r).view.set = iSet (chunkNo (cN L) (sN L) r) :=
  (View.set_slice_whole (main_v6_scv : Ref sig .scVector) (iRect L r)).trans (congrArg (fun R : Rect S425984 => R.set) (iRect_eq L r))
/-- The elements under the chunk's view of the result. -/
theorem set_oPart (L : grid1.Coords) (r : Fin 4) : (oPart L r).view.set = oSet (chunkNo (cN L) (sN L) r) :=
  (View.set_slice_whole (main_v10_scv : Ref sig .scVector) (oRect L r)).trans (congrArg (fun R : Rect S425984x16 => R.set) (oRect_eq L r))

/-- Part `k` of the list, held with contents `I`. -/
abbrev iPts (d : Dev nD) (I : Buf (Elt F) (iLoc d)) (k : Fin 128) : sProp 𝕄 := iLoc d ↦[iSet k]{fullShare} I
/-- Part `k` of the result, held with contents `O`. -/
abbrev oPts (d : Dev nD) (O : Buf (Elt F) (oLoc d)) (k : Fin 128) : sProp 𝕄 := oLoc d ↦[oSet k]{fullShare} O

/-- A chunk of the list held by its tile is the part of its number. -/
theorem iPts_eq (d : Dev nD) (L : grid1.Coords) (r : Fin 4) (f : Buf (Elt F) (iLoc d)) :
    ((iPart L r).view.loc (tile d L) ↦[(iPart L r).view.set]{fullShare} f : sProp 𝕄) = iPts d f (chunkNo (cN L) (sN L) r) := by
  rw [set_iPart]
/-- A chunk of the result held by its tile is the part of its number. -/
theorem oPts_eq (d : Dev nD) (L : grid1.Coords) (r : Fin 4) (f : Buf (Elt F) (oLoc d)) :
    ((oPart L r).view.loc (tile d L) ↦[(oPart L r).view.set]{fullShare} f : sProp 𝕄) = oPts d f (chunkNo (cN L) (sN L) r) := by
  rw [set_oPart]

/-! ## The values of a chunk -/

/-- What lies at place `x` of the chunk's numbers. -/
theorem read_iPart (d : Dev nD) (L : grid1.Coords) (r : Fin 4) (I : Buf (Elt F) (iLoc d)) (x : S3328.Idx) :
    (iPart L r).view.read (Elt F) I x = I ((iPart L r).view.emb x) := rfl

/-- The whole table, read as the chunk's stream addresses it, is the table. -/
theorem read_bAll (d : Dev nD) (B : Buf (Elt F) (bLoc d)) (y : S2600000x16.Idx) : (bAll).view.read (Elt F) B y = B y := by
  show B ((bAll).view.emb y) = B y
  congr 1
  show (Rect.unit (s := S2600000x16) ![0, 0] S2600000x16.size inb_S2600000x16_S2600000x16_0_0).emb y = y
  funext a
  refine Fin.ext ?_
  match a with
  | 0 => simp [Rect.emb, Rect.unit]
  | 1 => simp [Rect.emb, Rect.unit]

/-- Place `x` of the chunk's numbers and row `x` of the chunk's result stand at the same place of their arrays. -/
theorem emb_part (L : grid1.Coords) (r : Fin 4) (x : S3328x16.Idx) :
    (iPart L r).view.emb (ix1 (x 0)) = ix1 ((oPart L r).view.emb x 0) := by
  funext a
  refine Fin.ext ?_
  match a with
  | 0 =>
    show (k1_off1 L (off r)) 0 + 1 * (x 0).val = (k1_off2 L (off r)) 0 + 1 * (x 0).val
    rw [k1_off1_eq, k1_off2_eq]; rfl
/-- A chunk's view keeps the column. -/
theorem emb_oPart_one (L : grid1.Coords) (r : Fin 4) (x : S3328x16.Idx) : (oPart L r).view.emb x 1 = x 1 := by
  refine Fin.ext ?_
  show (k1_off2 L (off r)) 1 + 1 * (x 1).val = (x 1).val
  rw [k1_off2_eq]; simp

/-- The stream's payload over the chunk's numbers is the chunk's rows of the gathered array. -/
theorem payload_eq (d : Dev nD) (L : grid1.Coords) (r : Fin 4) (I : Buf (Elt F) (iLoc d)) (B : Buf (Elt F) (bLoc d))
    (o : S3328.Idx → Elt F .i32) (ho : o = (iPart L r).view.read (Elt F) I)
    (h : ∀ x, (o x).toNat < S2600000x16.size gathers_S2600000x16_S3328x16.axis) (x : S3328x16.Idx) :
    SparseCore.gatherPayload gathers_S2600000x16_S3328x16 ((bAll).view.read (Elt F) B) (SparseCore.rows o rfl h) x
      = gathered I B ((oPart L r).view.emb x) := by
  subst ho
  have e₁ : gathered I B ((oPart L r).view.emb x) = B (ix2 (rowOf (I ((iPart L r).view.emb (ix1 (x 0))))) (x 1)) :=
    congr (congrArg (fun a b => B (ix2 (rowOf (I a)) b)) (emb_part L r x).symm) (emb_oPart_one L r x)
  rw [e₁]
  unfold SparseCore.gatherPayload
  rw [read_bAll]
  refine congrArg B ?_
  funext a
  refine Fin.ext ?_
  match a with
  | 0 =>
    show (I ((iPart L r).view.emb (S3328.rowMajor.symm (Fin.cast _ (x 0))))).toNat = (I ((iPart L r).view.emb (ix1 (x 0)))).toNat % 2600000
    have e : S3328.rowMajor.symm (Fin.cast rfl (x 0 : Fin 3328)) = ix1 (x 0) :=
      (Equiv.symm_apply_eq S3328.rowMajor).mpr (Fin.ext (Shape.rowMajor_val_one (ix1 (x 0))).symm)
    exact (congrArg (fun y => (I ((iPart L r).view.emb y)).toNat) e).trans (Nat.mod_eq_of_lt (h (ix1 (x 0)))).symm
  | 1 => rfl

variable [FloatOps F]

/-- One write of the whole of a memref, read back. -/
theorem read_writes_whole {κ : Kind} {sp : Space} {s : Shape} {e : EltTy} (v : View sig κ sp s e) (f : v.ty.Contents (Elt F))
    (w : s.Idx → Elt F e) (x : s.Idx) : v.read (Elt F) (v.writes (Elt F) f [⟨Rect.whole s, w⟩]) x = w x := by
  have h := View.read_slice_write_emb (v := v) (Val := Elt F) (Rect.whole s) f w (x := x) (Finset.mem_univ x)
  rwa [show (Rect.whole s).emb x = x from Rect.emb_whole_apply s x] at h

/-- A memref's elements after one write of the whole of it hold `G`, when what is written is `G` as the memref reads it. -/
theorem writes_whole_set {κ : Kind} {sp : Space} {s : Shape} {e : EltTy} (v : View sig κ sp s e) (f G : v.ty.Contents (Elt F))
    (w : s.Idx → Elt F e) (hw : ∀ x, w x = v.read (Elt F) G x) :
    ∀ i ∈ v.set, v.writes (Elt F) f [⟨Rect.whole s, w⟩] i = G i := by
  intro i hi
  obtain ⟨x, -, rfl⟩ := Finset.mem_map.mp hi
  have h := (read_writes_whole v f w x).trans (hw x)
  rw [View.read_apply, View.read_apply] at h
  exact (cast_inj _).mp h

/-- What the chunk's rows of the result read of an array. -/
theorem read_oPart (d : Dev nD) (L : grid1.Coords) (r : Fin 4) (G : Buf (Elt F) (oLoc d)) (x : S3328x16.Idx) :
    (oPart L r).view.read (Elt F) G x = G ((oPart L r).view.emb x) := (View.read_apply _ _).trans (cast_eq _ _)

/-- What a tile sends out of its second scratch is what its stream wrote there. -/
theorem sent_eq (fr : (rV).view.ty.Contents (Elt F)) (g w : S3328x16.Idx → Elt F .f32)
    (hw : w = (rV).view.read (Elt F) ((rV).view.writes (Elt F) fr [⟨Rect.whole S3328x16, g⟩])) (x : S3328x16.Idx) : w x = g x := by
  subst hw
  exact read_writes_whole (rV).view fr g x

/-- The numbers a chunk fetched are rows of the table, when every number of the list is. -/
theorem inRange (d : Dev nD) (L : grid1.Coords) (r : Fin 4) (I : Buf (Elt F) (iLoc d)) (hI : ∀ x, (I x).toNat < 2600000)
    (fs : Buf (Elt F) ((tile d L).loc cc1_scratch0)) (pay : S3328.Idx → Elt F .i32) (hpay : pay = (iPart L r).view.read (Elt F) I) :
    ∀ x, ((sV).view.read (Elt F) (View.write (Elt F) (sV).view fs pay Finset.univ) x).toNat < S2600000x16.size gathers_S2600000x16_S3328x16.axis := by
  subst hpay; intro x
  rw [View.write_whole_univ]
  exact hI _

set_option maxHeartbeats 4000000 in
/-- A chunk's run: from its numbers, a share of the table, its rows of the result at anything, the two scratch buffers at
    anything and the three semaphores at zero, to the same with its rows of the result gathered. -/
theorem chunk_wp (d : Dev nD) (L : grid1.Coords) (r : Fin 4) (sA sB sG : DmaSems sig S_) (q : PosShare TreeShare)
    (I : Buf (Elt F) (iLoc d)) (hI : ∀ x, (I x).toNat < 2600000) (B : Buf (Elt F) (bLoc d)) (f : Buf (Elt F) (oLoc d))
    (O : CellTallies nD τ sig (HIx 1)) (W : Waits sig (HIx 1)) (hO : ∀ g, O g none = 0) :
    iprop(levAts (K (F := F)).L (K (F := F)).lev
        ∗ iPts d I (chunkNo (cN L) (sN L) r) ∗ (bLoc d ↦{q} B) ∗ oPts d f (chunkNo (cN L) (sN L) r)
        ∗ (∃ fs, (tile d L).loc cc1_scratch0 ↦{fullShare} fs) ∗ (∃ fr, (tile d L).loc cc1_scratch1 ↦{fullShare} fr)
        ∗ semVal (tile d L, .dma sA.sem) 0 ∗ semVal (tile d L, .dma sB.sem) 0 ∗ semVal (tile d L, .dma sG.sem) 0
        ∗ owes (tile d L) O W)
      ⊢ wp frame (wpE (defs₀ (F := F)) 𝒱₀ (tile d L) none) Set.univ (chunk L r sA sB sG)
          fun _ => iprop(iPts d I (chunkNo (cN L) (sN L) r) ∗ (bLoc d ↦{q} B) ∗ oPts d (gathered I B) (chunkNo (cN L) (sN L) r)
            ∗ (∃ fs, (tile d L).loc cc1_scratch0 ↦{fullShare} fs) ∗ (∃ fr, (tile d L).loc cc1_scratch1 ↦{fullShare} fr)
            ∗ semVal (tile d L, .dma sA.sem) 0 ∗ semVal (tile d L, .dma sB.sem) 0 ∗ semVal (tile d L, .dma sG.sem) 0
            ∗ ∃ W', ⌜∀ p ∈ W', p ∈ W ∨ p.2 = none⌝ ∗ owes (tile d L) O W') := by
  unfold chunk
  iintro ⟨#Hlv, Hi, Hb, Ho, ⟨%fs, Hs⟩, ⟨%fr, Hr⟩, HA, HB, HG, HO⟩
  ihave Hmw := (show levAts (K (F := F)).L (K (F := F)).lev ⊢ Transfers.MayWaits (tile d L) (default : HIx 1) O from
    (K (F := F)).mayWaits_none (thr := tile d L) hO) $$ Hlv
  ihave Hi' := (Entails.of_eq (iPts_eq d L r I).symm) $$ Hi
  ihave Ho' := (Entails.of_eq (oPts_eq d L r f).symm) $$ Ho
  ihave Hb' := (show (bLoc d ↦{q} B : sProp 𝕄) ⊢ ((bV).view.loc (tile d L) ↦{q} B) from BI.Entails.refl _) $$ Hb
  ihave Hs' := (show ((tile d L).loc cc1_scratch0 ↦{fullShare} fs : sProp 𝕄) ⊢ ((sV).view.loc (tile d L) ↦{fullShare} fs) from BI.Entails.refl _) $$ Hs
  ihave Hr' := (show ((tile d L).loc cc1_scratch1 ↦{fullShare} fr : sProp 𝕄) ⊢ ((rV).view.loc (tile d L) ↦{fullShare} fr) from BI.Entails.refl _) $$ Hr
  sl_exec
  have hin := inRange d L r I hI fs (chunk_wp.sl.dma0 d L r I) rfl
  sl_exec
  sl_step
  have hout := writes_whole_set (oPart L r).view f (gathered I B) (chunk_wp.sl.dma0_1 d L r I B fs fr hin) fun x =>
    ((sent_eq fr (chunk_wp.sl.gather0 d L r I B fs hin) (chunk_wp.sl.dma0_1 d L r I B fs fr hin) rfl x).trans
      (payload_eq d L r I B _ (View.write_whole_univ _ _ _) hin x)).trans (read_oPart d L r (gathered I B) x).symm
  isplitl [Hi']; · iapply (Entails.of_eq (iPts_eq d L r I)); iexact Hi'
  isplitl [Hb']; · iexact Hb'
  isplitl [Ho']
  · iapply (Entails.of_eq (oPts_eq d L r (gathered I B)))
    iapply (Entails.of_eq (pointsTo_congr hout)); iexact Ho'
  isplitl [Hs']; · iexists _; iexact Hs'
  isplitl [Hr']; · iexists _; iexact Hr'
  isplitl [HA]; · iexact HA
  isplitl [HB]; · iexact HB
  isplitl [HG]; · iexact HG
  iexists _; isplitr
  swap; · iexact HO
  ipureintro; intro p hp
  simp only [Finset.mem_insert] at hp
  rcases hp with rfl | rfl | rfl | hp
  · exact .inr rfl
  · exact .inr rfl
  · exact .inr rfl
  · exact .inl hp

end Cert.KernelIdeal.Proof

end
-- ==== Proof.Exact.Region.lean ====
/-
  One TensorCore pipeline of @main as a step of the TensorCore's thread, which stands between SparseCore calls: the thread
  keeps what it owes to the sequencers and the bound on the waits it has recorded while the pipeline runs. (A staging
  cell's wait is recorded at index `none`, whose level is 0, so the bound stays.)
-/
module

public import proofs.«01_k».proof.Proof.Exact.Setup
public import Idealize.ShloMosaic.Lib.Pipeline.RegionArraysS

@[expose] public section

noncomputable section

namespace Cert.KernelIdeal.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.TcCoe

variable {F : FTy → Type} [FloatOps F]

local notation "𝕄" => MT nD τ sig (HIx 1) (Elt F) ℕ UU ℕ

/-- The pairs the TensorCore may have recorded before call `n`: those of level at most `8 n`. -/
def recorded (d : Dev nD) (n : ℕ) : Set (SemLoc sig × HIx 1) := {p | (K (F := F)).lev (T d, p.1) p.2 ≤ 8 * n}

/-- What the TensorCore owes before call `n` is owed at no cell's index `none`. -/
theorem Otc_none (d : Dev nD) (n : ℕ) (g : GSem nD τ sig) : (K (F := F)).Otc d n g none = 0 := by
  unfold SparseCore.Cfg.Otc
  rw [Finset.sum_apply, Finsupp.finsetSum_apply]
  refine Finset.sum_eq_zero fun q _ => ?_
  by_cases h : n ≤ q.val
  · rw [if_pos h, Finset.sum_apply, Finsupp.finsetSum_apply]
    exact Finset.sum_eq_zero fun c _ => by rw [tallyAt_apply, if_neg (fun e => nomatch e.2)]
  · rw [if_neg h]; rfl

section Step

variable (pdats : (p : Fin 2) → (c : Dev nD) → Dat τ (Elt F) (HIx 1) ℕ UU ℕ (pin (pcfgs (F := F)) adm p) c)
variable (p : Fin 2) (n : ℕ) (V : Dev nD → Valuation τ sig (Elt F))

/-- What a pipeline's proof data must satisfy to run as a step before call `n`, entered at the valuation `V`. -/
structure StepFacts : Prop where
  kit : LaunchFacts (nD := nD) (τ := τ) cfgs p
  hbody : ∀ c, BodyObligationLoose (pdats p c) defs₀ 𝒱₀ none Set.univ
  howed : ∀ c t, (pdats p c).owed t = (K (F := F)).Otc c n
  hrec : ∀ c t, (pdats p c).recorded t = recorded (F := F) c n
  hshare : ∀ c w, (pdats p c).share w = fullShare
  hin : ∀ c, scopedRest (pin (pcfgs (F := F)) adm p).spec c ⊢ (pdats p c).Φ 0
  hout : ∀ c, (pdats p c).Φ (Fin.last (pin (pcfgs (F := F)) adm p).N) ⊢ scopedRest (pin (pcfgs (F := F)) adm p).spec c
  hA : ∀ c w, (pdats p c).A w = V c (Proc.devRef .tc (arrRef (pin (pcfgs (F := F)) adm p).spec w))

variable {pdats p n V}

/-- The pipeline's arrays are buffers the TensorCore holds. -/
theorem StepFacts.arrRefs_sub (h : StepFacts pdats p n V) :
    arrRefs (τ := τ) (pcfgs (F := F) p).spec ⊆ ucRefs τ sig :=
  arrRefs_sub_ucRefs _ h.kit.win.arr_unscoped

/-- The pipeline as a kernel region whose thread state is the arrays of `ucRefs` at a valuation, and what the TensorCore
    owes before call `n`. -/
def StepFacts.seg (h : StepFacts pdats p n V) :
    RegionSeg (pcfgs (F := F)) adm pdats none defs₀ 𝒱₀ (K (F := F)).L (K (F := F)).lev p where
  win := h.kit.toP.to₀.win
  block_pos := h.kit.block_pos
  stage_whole := h.kit.stage_whole
  K := PEmpty
  osem k := k.elim
  ho := OwnSemFacts.none _
  hbody := h.hbody
  hwaits c := cellsWaits_intro (pin (pcfgs (F := F)) adm) pdats none p c fun w s t => by
    rw [h.howed c t]; exact (K (F := F)).mayWait_none _ (Otc_none c n)
  pre c := iprop(StableHlo.held (c.tc : Thread nD τ) (ucRefs τ sig) (V c)
    ∗ ∃ W, ⌜(K (F := F)).WBelow (T c) W (8 * n)⌝ ∗ owes (T c) ((K (F := F)).Otc c n) W)
  post c := iprop(StableHlo.held (c.tc : Thread nD τ) (ucRefs τ sig) (afterRegion (pdats p c) (V c))
    ∗ ∃ W, ⌜(K (F := F)).WBelow (T c) W (8 * n)⌝ ∗ owes (T c) ((K (F := F)).Otc c n) W)
  X _ := iprop(emp)
  Y _ := iprop(emp)
  Z c := StableHlo.held (c.tc : Thread nD τ) (ucRefs τ sig \ arrRefs (pcfgs (F := F) p).spec) (V c)
  hentry c := by
    rw [ownSems0_none, prefHeld_of_none _ rfl, StableHlo.held_sub_split (c.tc : Thread nD τ) h.arrRefs_sub (V c),
      ← arrays_held (pcfgs (F := F)) adm pdats p h.kit.toP c (h.hshare c) ((pdats p c).arrAt · 0) (V c) (h.hA c)]
    iintro ⟨⟨⟨Ha, Hz⟩, HO⟩, -, -⟩
    imodintro
    isplitl [Ha]; · iexact Ha
    isplitr; · iempintro
    isplitl [HO]
    · unfold Dat.owesAt owesWithin Dat.bound
      rw [h.howed c 0, h.hrec c 0]
      icases HO with ⟨%W, %hW, HO⟩; iexists W; isplitr
      · ipureintro; exact fun x hx => Or.inl (hW x hx)
      iexact HO
    isplitr; · iempintro
    iexact Hz
  hin c := (show _ ⊢ scopedRest (pin (pcfgs (F := F)) adm p).spec c from by
    iintro ⟨-, -, Hr⟩
    iexact Hr).trans (h.hin c)
  hout c := (h.hout c).trans (by
    rw [ownSems0_none]
    iintro Hr
    isplitr; · iempintro
    isplitr; · iempintro
    iexact Hr)
  hexit c := by
    rw [StableHlo.held_sub_split (c.tc : Thread nD τ) h.arrRefs_sub (afterRegion (pdats p c) (V c)),
      StableHlo.held_congr (c.tc : Thread nD τ) (afterRegion_off (pdats p c) (V c) (ucRefs τ sig)),
      ← arrays_held (pcfgs (F := F)) adm pdats p h.kit.toP c (h.hshare c)
        ((pdats p c).arrAt · (pin (pcfgs (F := F)) adm p).N) (afterRegion (pdats p c) (V c))
        (fun w => (afterRegion_arr (pdats p c) (V c) h.kit.win.arr_inj w).symm)]
    iintro ⟨Ha, HO, -, Hz⟩
    imodintro
    isplitl [Ha Hz]; · isplitl [Ha] <;> iassumption
    unfold Dat.owesAt owesWithin Dat.bound
    rw [h.howed c (Fin.last _), h.hrec c (Fin.last _)]
    icases HO with ⟨%W, %hW, HO⟩; iexists W; isplitr
    · ipureintro
      intro x hx
      rcases hW hx with hx | ⟨w, s, rfl⟩
      · exact hx
      · exact Nat.zero_le _
    iexact HO

/-- The step: the pipeline's entry label, called by the TensorCore's thread between SparseCore calls, runs the buffers
    from `V` to `V` with the pipeline's arrays at their final contents. -/
theorem StepFacts.wp (h : StepFacts pdats p n V) (d : Dev nD)
    (k : PUnit → Prog (TpuEff nD τ sig (Elt F) (SparseCore.Sig (ΛP (F := F)) 1) .tc) PUnit) (Q : PUnit → sProp 𝕄) :
    iprop((iprop(boundary (d.tc : Thread nD τ) ∗ StableHlo.held (d.tc : Thread nD τ) (ucRefs τ sig) (afterRegion (pdats p d) (V d))
            ∗ (K (F := F)).tcSt EH d n)
          -∗ wp frame (wpE ((K (F := F)).defs D) 𝒱 (d.tc : Thread nD τ) none) Set.univ (k ⟨⟩) Q)
        ∗ boundary (d.tc : Thread nD τ) ∗ StableHlo.held (d.tc : Thread nD τ) (ucRefs τ sig) (V d) ∗ (K (F := F)).tcSt EH d n
        ∗ levAts (K (F := F)).L (K (F := F)).lev
        ∗ cellsGhost (pin (pcfgs (F := F)) adm) EP p d ∗ toksInit (pin (pcfgs (F := F)) adm) EP p d)
      ⊢ wp frame (wpE ((K (F := F)).defs D) 𝒱 (d.tc : Thread nD τ) none) Set.univ
          (Prog.lift (.customCall (SparseCore.inner (entry p)) ()) >>= k) Q := by
  rw [wp_bind]
  refine .trans ?_ ((K (F := F)).wp_liftProg D 𝒱 (d.tc : Thread nD τ) Set.univ none (.op (.customCall (entry p) ()) .ret) _)
  refine .trans ?_ (RegionSeg.wp (pcfgs (F := F)) adm pdats none cellOf_inj EP defs₀ 𝒱₀ (K (F := F)).L (K (F := F)).lev
    h.seg d none (fun u hu => nomatch hu) _ _)
  unfold SparseCore.Cfg.tcSt
  iintro ⟨Hk, Hb, Hh, ⟨HO, Hrest⟩, Hlv, Hg, Ht⟩
  isplitl [Hk Hrest]
  · iintro ⟨Hb, Hp⟩
    rw [wp_ret]
    imodintro
    ihave Hp' := (show h.seg.post d ⊢ iprop(StableHlo.held (d.tc : Thread nD τ) (ucRefs τ sig) (afterRegion (pdats p d) (V d))
      ∗ ∃ W, ⌜(K (F := F)).WBelow (T d) W (8 * n)⌝ ∗ owes (T d) ((K (F := F)).Otc d n) W) from BI.Entails.refl _) $$ Hp
    icases Hp' with ⟨Hh, HO⟩
    iapply Hk
    isplitl [Hb]; · iexact Hb
    isplitl [Hh]; · iexact Hh
    isplitl [HO]; · iexact HO
    iexact Hrest
  isplitl [Hb]; · iexact Hb
  isplitl [Hh HO]
  · iapply (show iprop(StableHlo.held (d.tc : Thread nD τ) (ucRefs τ sig) (V d)
      ∗ ∃ W, ⌜(K (F := F)).WBelow (T d) W (8 * n)⌝ ∗ owes (T d) ((K (F := F)).Otc d n) W) ⊢ h.seg.pre d from BI.Entails.refl _)
    isplitl [Hh]; · iexact Hh
    iexact HO
  isplitl [Hlv]; · iexact Hlv
  isplitl [Hg]; · iexact Hg
  iexact Ht

end Step

end Cert.KernelIdeal.Proof

end
-- ==== Proof.Exact.Transpose.lean ====
/-
  The first kernel on the TensorCore: table by table, in blocks of 12800 rows, each block of the transposed table is
  transposed back. The last block of a table overhangs it; what lies past the end is never written back. So the result
  array ends holding the operand with its last two axes exchanged.
-/
module

public import proofs.«01_k».proof.Proof.Exact.Region
public import proofs.«01_k».proof.Proof.Gen.KernelIdeal.Points
public import Idealize.ShloMosaic.Lib.Pipeline.ValueKit
public import Idealize.ShloMosaic.Lib.VecWindow
public import Idealize.ShloMosaic.Lib.Pointwise.Index
public import Idealize.ShloMosaic.Lib.Pointwise.Reshape

@[expose] public section

set_option maxRecDepth 16384

noncomputable section

namespace Cert.KernelIdeal.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.TcCoe
open Idealize.ShloMosaic.Tactic

variable {F : FTy → Type} [FloatOps F]

local notation "𝕄" => MT nD τ sig (HIx 1) (Elt F) ℕ UU ℕ

/-! ## The body -/

/-- The body at any pair of staging buffers: the result's is left holding the operand's block transposed. -/
theorem tr_wp (c : Dev nD) (E : Set ℕ) (i : grid0.Coords) (a : Memref sig .tc .vmem S1x16x12800 .f32) (ha : a.IsWhole)
    (b : Memref sig .tc .vmem S1x12800x16 .f32) (hb : b.IsWhole) (X : S1x16x12800.Idx → Elt F .f32) (Y : S1x12800x16.Idx → Elt F .f32)
    (Q : PUnit → sProp 𝕄) :
    iprop((owns (c : Thread nD τ) a fullShare X ∗ owns (c : Thread nD τ) b fullShare Y)
        ∗ ((owns (c : Thread nD τ) a fullShare X ∗ owns (c : Thread nD τ) b fullShare (k0_pay1 X)) -∗ Q ⟨⟩))
      ⊢ wp frame (wpE (defs₀ (F := F)) 𝒱₀ c none) E (cc0__tr_body i a ha b hb) Q := by
  rw [cc0__tr_body_eq_skeleton]; unfold cc0__tr_body_skel owns
  iintro ⟨⟨⟨%f, %hf, Ha⟩, ⟨%g, %hg, Hb⟩⟩, Hk⟩
  sl_exec
  sl_step
  iapply Hk
  isplitl [Ha]
  · iexists f; isplitr; · ipureintro; exact hf
    iexact Ha
  · iexists _; isplitr
    swap; · iexact Hb
    ipureintro
    exact (View.read_writes_full _ _ _ _ _).trans (congrArg k0_pay1 ((View.readAt_full _ _ _).trans hf))

/-- The block's transpose at an index. -/
theorem k0_pay1_apply (X : S1x16x12800.Idx → Elt F .f32) (j : S1x12800x16.Idx) : k0_pay1 X j = X (ix3 0 (j 2) (j 1)) := by
  have e₁ : k0_pay1 X j = transpose S12800x16 [1, 0] (shapeCast S16x12800 X shapeCasts_S1x16x12800_S16x12800)
      transposes_S16x12800_p1_0_S12800x16 (fun a => j a.succ) :=
    shapeCast_addUnit_apply (n := 2) ![12800, 16] (transpose S12800x16 [1, 0] (shapeCast S16x12800 X shapeCasts_S1x16x12800_S16x12800)
      transposes_S16x12800_p1_0_S12800x16) shapeCasts_S12800x16_S1x12800x16 j
  have e₂ : ∀ x : S16x12800.Idx, shapeCast S16x12800 X shapeCasts_S1x16x12800_S16x12800 x = X (ix3 0 (x 0) (x 1)) := fun x =>
    (shapeCast_dropUnit_apply (n := 2) ![16, 12800] X shapeCasts_S1x16x12800_S16x12800 x).trans (congrArg X (funext fun a => by
      match a with
      | 0 => rfl
      | 1 => rfl
      | 2 => rfl))
  rw [e₁]
  exact (e₂ _).trans rfl

/-! ## The proof data -/

/-- The last two axes exchanged. -/
def tr (G : S26x16x100000.Idx → Elt F .f32) : S26x100000x16.Idx → Elt F .f32 := fun j => G (ix3 (j 0) (j 2) (j 1))

variable (n : ℕ) (V : Dev nD → Valuation τ sig (Elt F))

/-- The operand on entry. -/
def src0 (c : Dev nD) : S26x16x100000.Idx → Elt F .f32 := V c (Proc.devRef .tc main_v7)

/-- What the two staging buffers hold after the body at point `t`, within the arrays: the operand's block, and the same
    block of the transposed operand. -/
def dat0 (c : Dev nD) : Dat τ (Elt F) (HIx 1) ℕ UU ℕ cfg0 c where
  A w := V c (Proc.devRef .tc (arrRef cfg0.spec w))
  after w t := match w with
    | ⟨0, _⟩ => win0_0.fill (grid0.coords t) (fun _ => Scalar.ofBits .f32 0#32) ((win0_0.blk t).view.read (Elt F) (src0 V c))
    | ⟨1, _⟩ => win0_1.fill (grid0.coords t) (fun _ => Scalar.ofBits .f32 0#32) ((win0_1.blk t).view.read (Elt F) (tr (src0 V c)))
  Φ _ := scopedRest cfg0.spec c
  q _ := fullShare
  owed _ := (K (F := F)).Otc c n
  recorded _ := recorded (F := F) c n

/-- The operand's staging buffer before the body: the block, and beyond the array's end what was there. -/
theorem before0_0 (c : Dev nD) (t : Fin cfg0.N) (d) :
    (dat0 n V c).before (0 : Fin 2) t d = win0_0.fill (grid0.coords t) d ((win0_0.blk t).view.read (Elt F) (src0 V c)) := by
  unfold Dat.before; rw [if_pos (fetch0_0 t)]; rfl

/-- The operand's block at a point. -/
theorem index0_0 : ∀ t : Fin cfg0.N, win0_0.index t = ![(grid0.coords t 0).val, 0, (grid0.coords t 1).val] :=
  (by decide +kernel : ∀ t : Fin grid0.N, _)
/-- The result's block at a point. -/
theorem index0_1 : ∀ t : Fin cfg0.N, win0_1.index t = ![(grid0.coords t 0).val, (grid0.coords t 1).val, 0] :=
  (by decide +kernel : ∀ t : Fin grid0.N, _)
/-- The two windows' blocks are cut alike: the rows within a table. -/
theorem xsize0 : ∀ t : Fin cfg0.N, win0_0.xsize (grid0.coords t) 2 = win0_1.xsize (grid0.coords t) 1 ∧ win0_0.xsize (grid0.coords t) 0 = 1
    ∧ win0_0.xsize (grid0.coords t) 1 = 16 ∧ win0_1.xsize (grid0.coords t) 0 = 1 :=
  (by decide +kernel : ∀ t : Fin grid0.N, _)

/-- Within the array, the transpose of the fetched block is the transposed array's block, whatever lies past its end. -/
theorem cut_tr (c : Dev nD) (t : Fin cfg0.N) (d : S1x16x12800.Idx → Elt F .f32) :
    win0_1.cut (grid0.coords t) (k0_pay1 (win0_0.fill (grid0.coords t) d ((win0_0.blk t).view.read (Elt F) (src0 V c))))
      = (win0_1.blk t).view.read (Elt F) (tr (src0 V c)) := by
  funext y
  obtain ⟨hx, hx0, hx1, hx2⟩ := xsize0 t
  have hy0 : (y 0).val < 1 := hx2 ▸ (y 0).isLt
  have hy1 : (y 1).val < win0_1.xsize (grid0.coords t) 1 := (y 1).isLt
  have hy2 : (y 2).val < 16 := (y 2).isLt
  let y' : (win0_0.xblock (grid0.coords t)).Idx := fun
    | 0 => ⟨0, (Nat.one_pos.trans_eq hx0.symm : 0 < win0_0.xsize (grid0.coords t) 0)⟩
    | 1 => ⟨(y 2).val, (hy2.trans_eq hx1.symm : (y 2).val < win0_0.xsize (grid0.coords t) 1)⟩
    | 2 => ⟨(y 1).val, (hy1.trans_eq hx.symm : (y 1).val < win0_0.xsize (grid0.coords t) 2)⟩
  have e : (ix3 0 (win0_1.xinj (grid0.coords t) y 2) (win0_1.xinj (grid0.coords t) y 1) : S1x16x12800.Idx) = win0_0.xinj (grid0.coords t) y' := by
    funext a
    match a with
    | 0 => rfl
    | 1 => rfl
    | 2 => rfl
  refine (k0_pay1_apply _ _).trans ((congrArg _ e).trans ((win0_0.fill_xinj _ _ _ y').trans ?_))
  have h0 := index0_0 t; have h1 := index0_1 t
  have e0 : (y' 0).val = 0 := rfl
  have e1 : (y' 1).val = (y 2).val := rfl
  have e2 : (y' 2).val = (y 1).val := rfl
  unfold tr
  blk_ext [h0, h1]
  · exact e1
  · exact congrArg (_ + ·) e2

/-! ## The body's obligation -/

/-- The body, at every point, turns what the staging buffers hold before it into what they hold after it. -/
theorem body0 (c : Dev nD) : BodyObligationLoose (dat0 n V c) (defs₀ (F := F)) 𝒱₀ none Set.univ := fun t => by
  rw [bigSep_W0, bigSep_W0]
  simp only
  rw [show (dat0 n V c).Φ t.succ = (dat0 n V c).Φ t.castSucc from rfl,
    show (dat0 n V c).owesAt none t.succ = (dat0 n V c).owesAt none t.castSucc from rfl]
  iintro ⟨HΦ, Ho, ⟨%d0, H0⟩, ⟨%d1, H1⟩⟩
  rw [before0_0 n V c t d0]
  iapply (tr_wp (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) _ _ _)
  isplitl [H0 H1]
  · isplitl [H0]; · iexact H0
    iexact H1
  iintro ⟨H0, H1⟩
  isplitl [HΦ]; · iexact HΦ
  isplitl [Ho]; · iexact Ho
  isplitl [H0]
  · iexists d0
    change _ ⊢ owns (c : Thread nD τ) (win0_0.stage (cfg0.slots t 0)) fullShare (win0_0.fill (grid0.coords t) d0 (win0_0.cut (grid0.coords t)
      (win0_0.fill (grid0.coords t) (fun _ => Scalar.ofBits .f32 0#32) ((win0_0.blk t).view.read (Elt F) (src0 V c)))))
    rw [win0_0.cut_fill]
  · have hfill : win0_1.fill (grid0.coords t) (k0_pay1 (win0_0.fill (grid0.coords t) d0 ((win0_0.blk t).view.read (Elt F) (src0 V c))))
        (win0_1.cut (grid0.coords t) ((dat0 n V c).after (1 : Fin 2) t))
        = k0_pay1 (win0_0.fill (grid0.coords t) d0 ((win0_0.blk t).view.read (Elt F) (src0 V c))) :=
      (congrArg (win0_1.fill (grid0.coords t) _) ((win0_1.cut_fill _ _ _).trans (cut_tr V c t d0).symm)).trans (win0_1.fill_cut _ _)
    iexists (k0_pay1 (win0_0.fill (grid0.coords t) d0 ((win0_0.blk t).view.read (Elt F) (src0 V c))))
    iapply (Entails.of_eq (congrArg (fun X => owns (c : Thread nD τ) (win0_1.stage (cfg0.slots t 1)) fullShare X) hfill.symm)); iexact H1

/-! ## The result array -/

/-- The operand's array is left as it was. -/
theorem final0_in (c : Dev nD) : (dat0 n V c).arrAt (0 : Fin 2) cfg0.N = src0 V c := (dat0 n V c).arrAt_in (0 : Fin 2) rfl _

/-- After the last point the result array is the operand with its last two axes exchanged. -/
theorem final0_out (c : Dev nD) : (dat0 n V c).arrAt (1 : Fin 2) cfg0.N = tr (src0 V c) := by
  refine (dat0 n V c).arrAt_eq_of_covers (1 : Fin 2) _ (by decide +kernel) fun t _ y => ?_
  exact congrFun (win0_1.cut_fill (grid0.coords t) (fun _ => Scalar.ofBits .f32 0#32) ((win0_1.blk t).view.read (Elt F) (tr (src0 V c)))) y

end Cert.KernelIdeal.Proof

end
-- ==== Proof.Exact.Index.lean ====
/-
  The rows the host operations ask for: the index of batch row b and field f, with the field's offset 100000 f added, in
  row-major order. With every index of the batch below 100000 all of them name rows of the flattened table.
-/
module

public import proofs.«01_k».proof.Proof.Exact.Chunk
public import proofs.«01_k».proof.Proof.Exact.Transpose
public import Idealize.ShloMosaic.Lib.Pipeline.Value
public import Idealize.ShloMosaic.Lib.Pointwise.Index

@[expose] public section

set_option maxRecDepth 16384

noncomputable section

namespace Cert.KernelIdeal.Proof

open Cert.KernelIdeal Cert.KernelIdeal.Gen
open Idealize.ShloMosaic

variable {F : FTy → Type}

/-- The offset of each field, as the host computes it: the field's number times 100000, over the whole batch. -/
def fieldOff : S16384x26.Idx → BitVec 32 :=
  broadcastInDim S16384x26 ![0, 1] bcast_S1x26_S16384x26_0_1
    (muli (broadcastInDim S1x26 ![1] bcast_S26_S1x26_1 (iotaInDim S26 32 0))
      (broadcastInDim S1x26 ![] bcast_S_S1x26 (constantI S_ 32 100000#32)))

/-- The rows asked for, in row-major order of batch row and field. -/
def idxOf (x : S16384x26.Idx → BitVec 32) : S425984.Idx → BitVec 32 :=
  shapeCast S425984 (addi x fieldOff) shapeCasts_S16384x26_S425984

/-- The table as the gather reads it: transposed by the host, transposed back by the first pipeline, flattened. -/
def tblOf (E : S26x100000x16.Idx → Elt F .f32) : S2600000x16.Idx → Elt F .f32 :=
  shapeCast S2600000x16 (tr (transpose S26x16x100000 [0, 2, 1] E transposes_S26x100000x16_S26x16x100000_0_2_1))
    shapeCasts_S26x100000x16_S2600000x16

/-- Field f's offset is f times 100000. -/
theorem fieldOff_apply (b : Fin 16384) (f : Fin 26) : fieldOff (ix2 b f) = BitVec.ofNat 32 f.val * 100000#32 := by
  unfold fieldOff
  refine (broadcastInDim_apply _ _ _ (ix2 b f) (ix2 (0 : Fin 1) f) (fun a => match a with | ⟨0, _⟩ => rfl | ⟨1, _⟩ => rfl)).trans ?_
  show IntOp.muli _ _ = _
  refine congrArg₂ (· * ·) ?_ ?_
  · exact broadcastInDim_apply _ _ _ (ix2 (0 : Fin 1) f) (ix1 f) (fun a => match a with | ⟨0, _⟩ => rfl)
  · rfl

/-- Position j of the list asks for batch row j / 26 and field j mod 26. -/
theorem idxOf_apply (x : S16384x26.Idx → BitVec 32) (b : Fin 16384) (f : Fin 26) (j : S425984.Idx) (hj : (j 0).val = b.val * 26 + f.val) :
    idxOf x j = x (ix2 b f) + BitVec.ofNat 32 f.val * 100000#32 := by
  unfold idxOf
  refine (shapeCast_apply _ _ j (ix2 b f) ?_).trans ?_
  · rw [Shape.rowMajor_val_two, Shape.rowMajor_val_one]; exact hj.symm
  · show x (ix2 b f) + fieldOff (ix2 b f) = _
    rw [fieldOff_apply]

/-- A field's offset and an index below 100000 add without a carry. -/
theorem idx_toNat (w : BitVec 32) (hw : w.toNat < 100000) (f : Fin 26) :
    (w + BitVec.ofNat 32 f.val * 100000#32).toNat = f.val * 100000 + w.toNat := by
  have := f.isLt
  simp only [BitVec.toNat_add, BitVec.toNat_mul, BitVec.toNat_ofNat, Nat.reducePow, Nat.reduceMod]
  omega

/-- Every row asked for lies in the table, when every index of the batch is below 100000. -/
theorem idxOf_lt (x : S16384x26.Idx → BitVec 32) (hx : ∀ i, (x i).toNat < 100000) (j : S425984.Idx) : (idxOf x j).toNat < 2600000 := by
  have h0 : (j 0).val < 425984 := (j 0).isLt
  have e := idxOf_apply x ⟨(j 0).val / 26, by omega⟩ ⟨(j 0).val % 26, by omega⟩ j (by show (j 0).val = (j 0).val / 26 * 26 + (j 0).val % 26; omega)
  rw [e, idx_toNat _ (hx _)]
  have := hx (ix2 (⟨(j 0).val / 26, by omega⟩ : Fin 16384) (⟨(j 0).val % 26, by omega⟩ : Fin 26))
  dsimp only
  omega

/-- Row 100000 f + v of the flattened table is row v of field f's table. -/
theorem tblOf_apply (E : S26x100000x16.Idx → Elt F .f32) (f : Fin 26) (v : Fin 100000) (e : Fin 16) (r : Fin 2600000)
    (hr : r.val = f.val * 100000 + v.val) : tblOf E (ix2 r e) = E (ix3 f v e) := by
  unfold tblOf
  refine (shapeCast_apply _ _ (ix2 r e) (ix3 f v e) ?_).trans ?_
  · rw [Shape.rowMajor_val_two, Shape.rowMajor_val_three]
    show (f.val * 100000 + v.val) * 16 + e.val = r.val * 16 + e.val
    rw [hr]
  · unfold tr
    exact transpose_apply _ _ _ (ix3 f e v) (ix3 f v e) (fun a => match a with | ⟨0, _⟩ => rfl | ⟨1, _⟩ => rfl | ⟨2, _⟩ => rfl)

end Cert.KernelIdeal.Proof

end
-- ==== Proof.Exact.Mlp.lean ====
/-
  The second kernel on the TensorCore: the layers of the perceptron on blocks of 2048 rows of the batch, the weights
  and biases whole at every point. So the result array ends holding, row by row, what the body computes from the row's
  block.
-/
module

public import proofs.«01_k».proof.Proof.Exact.Region
public import proofs.«01_k».proof.Proof.Gen.KernelIdeal.Points
public import Idealize.ShloMosaic.Lib.Pipeline.ValueKit
public import Idealize.ShloMosaic.Lib.Pipeline.FrameBody
public import Idealize.ShloMosaic.Lib.VecWindow
public import Idealize.ShloMosaic.Lib.Pointwise.Index

@[expose] public section

set_option maxRecDepth 16384

noncomputable section

namespace Cert.KernelIdeal.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.TcCoe
open Idealize.ShloMosaic.Tactic

variable {F : FTy → Type} [FloatOps F]

local notation "𝕄" => MT nD τ sig (HIx 1) (Elt F) ℕ UU ℕ

/-! ## The body -/

/-- The body at any staging buffers: the result's is left holding what the body computes from the others'. -/
theorem mlp_wp (c : Dev nD) (E : Set ℕ) (i : grid2.Coords)
    (a0 : Memref sig .tc .vmem S2048x13 .f32) (h0 : a0.IsWhole) (a1 : Memref sig .tc .vmem S2048x416 .f32) (h1 : a1.IsWhole)
    (a2 : Memref sig .tc .vmem S13x128 .f32) (h2 : a2.IsWhole) (a3 : Memref sig .tc .vmem S416x128 .f32) (h3 : a3.IsWhole)
    (a4 : Memref sig .tc .vmem S1x128 .f32) (h4 : a4.IsWhole) (a5 : Memref sig .tc .vmem S128x64 .f32) (h5 : a5.IsWhole)
    (a6 : Memref sig .tc .vmem S1x64 .f32) (h6 : a6.IsWhole) (a7 : Memref sig .tc .vmem S64x1 .f32) (h7 : a7.IsWhole)
    (a8 : Memref sig .tc .vmem S1x1 .f32) (h8 : a8.IsWhole) (a9 : Memref sig .tc .vmem S2048x1 .f32) (h9 : a9.IsWhole)
    (X0 : S2048x13.Idx → Elt F .f32) (X1 : S2048x416.Idx → Elt F .f32) (X2 : S13x128.Idx → Elt F .f32)
    (X3 : S416x128.Idx → Elt F .f32) (X4 : S1x128.Idx → Elt F .f32) (X5 : S128x64.Idx → Elt F .f32)
    (X6 : S1x64.Idx → Elt F .f32) (X7 : S64x1.Idx → Elt F .f32) (X8 : S1x1.Idx → Elt F .f32) (X9 : S2048x1.Idx → Elt F .f32)
    (Q : PUnit → sProp 𝕄) :
    iprop((owns (c : Thread nD τ) a0 fullShare X0 ∗ owns (c : Thread nD τ) a1 fullShare X1 ∗ owns (c : Thread nD τ) a2 fullShare X2
          ∗ owns (c : Thread nD τ) a3 fullShare X3 ∗ owns (c : Thread nD τ) a4 fullShare X4 ∗ owns (c : Thread nD τ) a5 fullShare X5
          ∗ owns (c : Thread nD τ) a6 fullShare X6 ∗ owns (c : Thread nD τ) a7 fullShare X7 ∗ owns (c : Thread nD τ) a8 fullShare X8
          ∗ owns (c : Thread nD τ) a9 fullShare X9)
        ∗ ((owns (c : Thread nD τ) a0 fullShare X0 ∗ owns (c : Thread nD τ) a1 fullShare X1 ∗ owns (c : Thread nD τ) a2 fullShare X2
          ∗ owns (c : Thread nD τ) a3 fullShare X3 ∗ owns (c : Thread nD τ) a4 fullShare X4 ∗ owns (c : Thread nD τ) a5 fullShare X5
          ∗ owns (c : Thread nD τ) a6 fullShare X6 ∗ owns (c : Thread nD τ) a7 fullShare X7 ∗ owns (c : Thread nD τ) a8 fullShare X8
          ∗ owns (c : Thread nD τ) a9 fullShare (k2_pay1 X1 X3 X0 X2 X4 X5 X6 X7 X8)) -∗ Q ⟨⟩))
      ⊢ wp frame (wpE (defs₀ (F := F)) 𝒱₀ c none) E
          (cc2__mlp_body i a0 h0 a1 h1 a2 h2 a3 h3 a4 h4 a5 h5 a6 h6 a7 h7 a8 h8 a9 h9) Q := by
  rw [cc2__mlp_body_eq_skeleton]; unfold cc2__mlp_body_skel owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, %e8, H8⟩, ⟨%f9, %e9, H9⟩⟩, Hk⟩
  sl_exec
  sl_step
  iapply Hk
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  isplitl [H8]; · iexists f8; isplitr; · ipureintro; exact e8
                  iexact H8
  iexists _; isplitr
  swap; · iexact H9
  ipureintro
  refine (View.read_writes_full _ _ _ _ _).trans ?_
  rw [(View.readAt_full _ _ _).trans e0, (View.readAt_full _ _ _).trans e1, (View.readAt_full _ _ _).trans e2,
    (View.readAt_full _ _ _).trans e3, (View.readAt_full _ _ _).trans e4, (View.readAt_full _ _ _).trans e5,
    (View.readAt_full _ _ _).trans e6, (View.readAt_full _ _ _).trans e7, (View.readAt_full _ _ _).trans e8]

/-! ## The proof data -/

/-- Block `k` of the batch's rows. -/
def rowBlk {α : Type} (m : ℕ) (k : Fin 8) (X : (⟨2, ![16384, m]⟩ : Shape).Idx → α) : (⟨2, ![2048, m]⟩ : Shape).Idx → α := fun j =>
  X (ix2 ⟨k.val * 2048 + (j 0).val, by have : (j 0).val < 2048 := (j 0).isLt; have := k.isLt; omega⟩ (j 1))

/-- What the perceptron's kernel computes: each row from its block of 2048 rows. -/
def mlpOut (xn : S16384x13.Idx → Elt F .f32) (xe : S16384x416.Idx → Elt F .f32) (w1n : S13x128.Idx → Elt F .f32)
    (w1e : S416x128.Idx → Elt F .f32) (b1 : S1x128.Idx → Elt F .f32) (w2 : S128x64.Idx → Elt F .f32)
    (b2 : S1x64.Idx → Elt F .f32) (w3 : S64x1.Idx → Elt F .f32) (b3 : S1x1.Idx → Elt F .f32) : S16384x1.Idx → Elt F .f32 := fun j =>
  k2_pay1 (rowBlk 416 ⟨(j 0).val / 2048, by have : (j 0).val < 16384 := (j 0).isLt; omega⟩ xe) w1e
    (rowBlk 13 ⟨(j 0).val / 2048, by have : (j 0).val < 16384 := (j 0).isLt; omega⟩ xn) w1n b1 w2 b2 w3 b3
    (ix2 ⟨(j 0).val % 2048, Nat.mod_lt _ (by decide)⟩ 0)

variable (n : ℕ) (V : Dev nD → Valuation τ sig (Elt F))

/-- What the kernel leaves at the valuation it starts from. -/
def out1 (c : Dev nD) : S16384x1.Idx → Elt F .f32 :=
  mlpOut (V c (Proc.devRef .tc main_arg0)) (V c (Proc.devRef .tc main_v11)) (V c (Proc.devRef .tc main_v12))
    (V c (Proc.devRef .tc main_v13)) (V c (Proc.devRef .tc main_v14)) (V c (Proc.devRef .tc main_arg5))
    (V c (Proc.devRef .tc main_v15)) (V c (Proc.devRef .tc main_arg7)) (V c (Proc.devRef .tc main_v16))

/-- The point's block of rows. -/
def pt (t : Fin cfg2.N) : Fin 8 := ⟨t.val, t.isLt.trans_eq N_2⟩

/-- What the staging buffers hold after the body at point `t`: the rows' blocks, the weights and biases, and the
    result's block. -/
def dat1 (c : Dev nD) : Dat τ (Elt F) (HIx 1) ℕ UU ℕ cfg2 c where
  A w := V c (Proc.devRef .tc (arrRef cfg2.spec w))
  after w t := match w with
    | ⟨0, _⟩ => rowBlk 13 (pt t) (V c (Proc.devRef .tc main_arg0) : S16384x13.Idx → Elt F .f32)
    | ⟨1, _⟩ => rowBlk 416 (pt t) (V c (Proc.devRef .tc main_v11) : S16384x416.Idx → Elt F .f32)
    | ⟨2, _⟩ => (V c (Proc.devRef .tc main_v12) : S13x128.Idx → Elt F .f32)
    | ⟨3, _⟩ => (V c (Proc.devRef .tc main_v13) : S416x128.Idx → Elt F .f32)
    | ⟨4, _⟩ => (V c (Proc.devRef .tc main_v14) : S1x128.Idx → Elt F .f32)
    | ⟨5, _⟩ => (V c (Proc.devRef .tc main_arg5) : S128x64.Idx → Elt F .f32)
    | ⟨6, _⟩ => (V c (Proc.devRef .tc main_v15) : S1x64.Idx → Elt F .f32)
    | ⟨7, _⟩ => (V c (Proc.devRef .tc main_arg7) : S64x1.Idx → Elt F .f32)
    | ⟨8, _⟩ => (V c (Proc.devRef .tc main_v16) : S1x1.Idx → Elt F .f32)
    | ⟨9, _⟩ => k2_pay1 (rowBlk 416 (pt t) (V c (Proc.devRef .tc main_v11) : S16384x416.Idx → Elt F .f32)) (V c (Proc.devRef .tc main_v13))
        (rowBlk 13 (pt t) (V c (Proc.devRef .tc main_arg0) : S16384x13.Idx → Elt F .f32)) (V c (Proc.devRef .tc main_v12))
        (V c (Proc.devRef .tc main_v14)) (V c (Proc.devRef .tc main_arg5)) (V c (Proc.devRef .tc main_v15))
        (V c (Proc.devRef .tc main_arg7)) (V c (Proc.devRef .tc main_v16))
  Φ _ := scopedRest (pin (pcfgs (F := F)) adm 1).spec c
  q _ := fullShare
  owed _ := (K (F := F)).Otc c n
  recorded _ := recorded (F := F) c n

/-- Window 0 takes the point's block of rows. -/
theorem index1_0 : ∀ t : Fin cfg2.N, win2_0.index t = ![t.val, 0] := (by decide +kernel : ∀ t : Fin grid2.N, _)
/-- Window 1 takes the point's block of rows. -/
theorem index1_1 : ∀ t : Fin cfg2.N, win2_1.index t = ![t.val, 0] := (by decide +kernel : ∀ t : Fin grid2.N, _)
/-- The result's window takes the point's block of rows. -/
theorem index1_9 : ∀ t : Fin cfg2.N, win2_9.index t = ![t.val, 0] := (by decide +kernel : ∀ t : Fin grid2.N, _)
/-- Window 2 takes the whole array at every point. -/
theorem index1_2 : ∀ t : Fin cfg2.N, win2_2.index t = ![0, 0] := (by decide +kernel : ∀ t : Fin grid2.N, _)
/-- Window 3 takes the whole array at every point. -/
theorem index1_3 : ∀ t : Fin cfg2.N, win2_3.index t = ![0, 0] := (by decide +kernel : ∀ t : Fin grid2.N, _)
/-- Window 4 takes the whole array at every point. -/
theorem index1_4 : ∀ t : Fin cfg2.N, win2_4.index t = ![0, 0] := (by decide +kernel : ∀ t : Fin grid2.N, _)
/-- Window 5 takes the whole array at every point. -/
theorem index1_5 : ∀ t : Fin cfg2.N, win2_5.index t = ![0, 0] := (by decide +kernel : ∀ t : Fin grid2.N, _)
/-- Window 6 takes the whole array at every point. -/
theorem index1_6 : ∀ t : Fin cfg2.N, win2_6.index t = ![0, 0] := (by decide +kernel : ∀ t : Fin grid2.N, _)
/-- Window 7 takes the whole array at every point. -/
theorem index1_7 : ∀ t : Fin cfg2.N, win2_7.index t = ![0, 0] := (by decide +kernel : ∀ t : Fin grid2.N, _)
/-- Window 8 takes the whole array at every point. -/
theorem index1_8 : ∀ t : Fin cfg2.N, win2_8.index t = ![0, 0] := (by decide +kernel : ∀ t : Fin grid2.N, _)

/-! Each input's block at a point, from the array: the rows' block of the first two, the whole array of the others. -/

/-- Window 0's block is the point's block of rows. -/
theorem blk1_0 (t : Fin cfg2.N) (X : S16384x13.Idx → Elt F .f32) : (win2_0.blk t).view.read (Elt F) X = rowBlk 13 (pt t) X := by
  funext y; unfold rowBlk pt; blk_ext [index1_0 t]
/-- Window 1's block is the point's block of rows. -/
theorem blk1_1 (t : Fin cfg2.N) (X : S16384x416.Idx → Elt F .f32) : (win2_1.blk t).view.read (Elt F) X = rowBlk 416 (pt t) X := by
  funext y; unfold rowBlk pt; blk_ext [index1_1 t]
/-- Window 2's block is the array. -/
theorem blk1_2 (t : Fin cfg2.N) (X : S13x128.Idx → Elt F .f32) : (win2_2.blk t).view.read (Elt F) X = X := by
  funext y; blk_ext [index1_2 t]
/-- Window 3's block is the array. -/
theorem blk1_3 (t : Fin cfg2.N) (X : S416x128.Idx → Elt F .f32) : (win2_3.blk t).view.read (Elt F) X = X := by
  funext y; blk_ext [index1_3 t]
/-- Window 4's block is the array. -/
theorem blk1_4 (t : Fin cfg2.N) (X : S1x128.Idx → Elt F .f32) : (win2_4.blk t).view.read (Elt F) X = X := by
  funext y; blk_ext [index1_4 t]
/-- Window 5's block is the array. -/
theorem blk1_5 (t : Fin cfg2.N) (X : S128x64.Idx → Elt F .f32) : (win2_5.blk t).view.read (Elt F) X = X := by
  funext y; blk_ext [index1_5 t]
/-- Window 6's block is the array. -/
theorem blk1_6 (t : Fin cfg2.N) (X : S1x64.Idx → Elt F .f32) : (win2_6.blk t).view.read (Elt F) X = X := by
  funext y; blk_ext [index1_6 t]
/-- Window 7's block is the array. -/
theorem blk1_7 (t : Fin cfg2.N) (X : S64x1.Idx → Elt F .f32) : (win2_7.blk t).view.read (Elt F) X = X := by
  funext y; blk_ext [index1_7 t]
/-- Window 8's block is the array. -/
theorem blk1_8 (t : Fin cfg2.N) (X : S1x1.Idx → Elt F .f32) : (win2_8.blk t).view.read (Elt F) X = X := by
  funext y; blk_ext [index1_8 t]

/-! What each input's staging buffer holds when the body starts, fetched at that point or kept from an earlier one. -/

/-- Window 0's staging buffer before the body. -/
theorem before1_0 (c : Dev nD) (t : Fin cfg2.N) (d) :
    (dat1 n V c).before (0 : Fin 10) t d = rowBlk 13 (pt t) (V c (Proc.devRef .tc main_arg0) : S16384x13.Idx → Elt F .f32) :=
  ((dat1 n V c).before_in_eq_fetched (0 : Fin 10) rfl (fun _ => rfl) (fun _ _ _ => rfl) (fun t => (blk1_0 t (V c (Proc.devRef .tc main_arg0))).symm) t d).trans
    (blk1_0 t (V c (Proc.devRef .tc main_arg0)))
/-- Window 1's staging buffer before the body. -/
theorem before1_1 (c : Dev nD) (t : Fin cfg2.N) (d) :
    (dat1 n V c).before (1 : Fin 10) t d = rowBlk 416 (pt t) (V c (Proc.devRef .tc main_v11) : S16384x416.Idx → Elt F .f32) :=
  ((dat1 n V c).before_in_eq_fetched (1 : Fin 10) rfl (fun _ => rfl) (fun _ _ _ => rfl) (fun t => (blk1_1 t (V c (Proc.devRef .tc main_v11))).symm) t d).trans
    (blk1_1 t (V c (Proc.devRef .tc main_v11)))
/-- Window 2's staging buffer before the body. -/
theorem before1_2 (c : Dev nD) (t : Fin cfg2.N) (d) :
    (dat1 n V c).before (2 : Fin 10) t d = (V c (Proc.devRef .tc main_v12) : S13x128.Idx → Elt F .f32) :=
  ((dat1 n V c).before_in_eq_fetched (2 : Fin 10) rfl (fun _ => rfl) (fun _ _ _ => rfl) (fun t => (blk1_2 t (V c (Proc.devRef .tc main_v12))).symm) t d).trans
    (blk1_2 t (V c (Proc.devRef .tc main_v12)))
/-- Window 3's staging buffer before the body. -/
theorem before1_3 (c : Dev nD) (t : Fin cfg2.N) (d) :
    (dat1 n V c).before (3 : Fin 10) t d = (V c (Proc.devRef .tc main_v13) : S416x128.Idx → Elt F .f32) :=
  ((dat1 n V c).before_in_eq_fetched (3 : Fin 10) rfl (fun _ => rfl) (fun _ _ _ => rfl) (fun t => (blk1_3 t (V c (Proc.devRef .tc main_v13))).symm) t d).trans
    (blk1_3 t (V c (Proc.devRef .tc main_v13)))
/-- Window 4's staging buffer before the body. -/
theorem before1_4 (c : Dev nD) (t : Fin cfg2.N) (d) :
    (dat1 n V c).before (4 : Fin 10) t d = (V c (Proc.devRef .tc main_v14) : S1x128.Idx → Elt F .f32) :=
  ((dat1 n V c).before_in_eq_fetched (4 : Fin 10) rfl (fun _ => rfl) (fun _ _ _ => rfl) (fun t => (blk1_4 t (V c (Proc.devRef .tc main_v14))).symm) t d).trans
    (blk1_4 t (V c (Proc.devRef .tc main_v14)))
/-- Window 5's staging buffer before the body. -/
theorem before1_5 (c : Dev nD) (t : Fin cfg2.N) (d) :
    (dat1 n V c).before (5 : Fin 10) t d = (V c (Proc.devRef .tc main_arg5) : S128x64.Idx → Elt F .f32) :=
  ((dat1 n V c).before_in_eq_fetched (5 : Fin 10) rfl (fun _ => rfl) (fun _ _ _ => rfl) (fun t => (blk1_5 t (V c (Proc.devRef .tc main_arg5))).symm) t d).trans
    (blk1_5 t (V c (Proc.devRef .tc main_arg5)))
/-- Window 6's staging buffer before the body. -/
theorem before1_6 (c : Dev nD) (t : Fin cfg2.N) (d) :
    (dat1 n V c).before (6 : Fin 10) t d = (V c (Proc.devRef .tc main_v15) : S1x64.Idx → Elt F .f32) :=
  ((dat1 n V c).before_in_eq_fetched (6 : Fin 10) rfl (fun _ => rfl) (fun _ _ _ => rfl) (fun t => (blk1_6 t (V c (Proc.devRef .tc main_v15))).symm) t d).trans
    (blk1_6 t (V c (Proc.devRef .tc main_v15)))
/-- Window 7's staging buffer before the body. -/
theorem before1_7 (c : Dev nD) (t : Fin cfg2.N) (d) :
    (dat1 n V c).before (7 : Fin 10) t d = (V c (Proc.devRef .tc main_arg7) : S64x1.Idx → Elt F .f32) :=
  ((dat1 n V c).before_in_eq_fetched (7 : Fin 10) rfl (fun _ => rfl) (fun _ _ _ => rfl) (fun t => (blk1_7 t (V c (Proc.devRef .tc main_arg7))).symm) t d).trans
    (blk1_7 t (V c (Proc.devRef .tc main_arg7)))
/-- Window 8's staging buffer before the body. -/
theorem before1_8 (c : Dev nD) (t : Fin cfg2.N) (d) :
    (dat1 n V c).before (8 : Fin 10) t d = (V c (Proc.devRef .tc main_v16) : S1x1.Idx → Elt F .f32) :=
  ((dat1 n V c).before_in_eq_fetched (8 : Fin 10) rfl (fun _ => rfl) (fun _ _ _ => rfl) (fun t => (blk1_8 t (V c (Proc.devRef .tc main_v16))).symm) t d).trans
    (blk1_8 t (V c (Proc.devRef .tc main_v16)))

/-! ## The body's obligation -/

/-- The body, at every point, turns what the staging buffers hold before it into what they hold after it. -/
theorem body1 (c : Dev nD) : BodyObligationLoose (dat1 n V c) (defs₀ (F := F)) 𝒱₀ none Set.univ := fun t => by
  rw [bigSep_W2, bigSep_W2]
  simp only
  rw [show (dat1 n V c).Φ t.succ = (dat1 n V c).Φ t.castSucc from rfl,
    show (dat1 n V c).owesAt none t.succ = (dat1 n V c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before1_0 n V c t d0, before1_1 n V c t d1, before1_2 n V c t d2, before1_3 n V c t d3, before1_4 n V c t d4,
    before1_5 n V c t d5, before1_6 n V c t d6, before1_7 n V c t d7, before1_8 n V c t d8]
  iapply (mlp_wp (F := F) c Set.univ (grid2.coords t) (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3))
    (win2_4.stage (cfg2.slots t 4)) (hstage2_4 ((cfg2.slots t 4).cast nbuf2_4))
    (win2_5.stage (cfg2.slots t 5)) (hstage2_5 ((cfg2.slots t 5).cast nbuf2_5))
    (win2_6.stage (cfg2.slots t 6)) (hstage2_6 ((cfg2.slots t 6).cast nbuf2_6))
    (win2_7.stage (cfg2.slots t 7)) (hstage2_7 ((cfg2.slots t 7).cast nbuf2_7))
    (win2_8.stage (cfg2.slots t 8)) (hstage2_8 ((cfg2.slots t 8).cast nbuf2_8))
    (win2_9.stage (cfg2.slots t 9)) (hstage2_9 ((cfg2.slots t 9).cast nbuf2_9)) _ _ _ _ _ _ _ _ _ _ _)
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The result array -/

/-- The point's block of what the kernel leaves is what the body computes at that point. -/
theorem out1_blk (c : Dev nD) (t : Fin cfg2.N) : (win2_9.blk t).view.read (Elt F) (out1 V c) = (dat1 n V c).after (9 : Fin 10) t := by
  funext y
  have hy : (y 0).val < 2048 := (y 0).isLt
  have hy1 : (y 1).val < 1 := (y 1).isLt
  have e : (win2_9.blk t).view.read (Elt F) (out1 V c) y
      = out1 V c (ix2 ⟨(pt t).val * 2048 + (y 0).val, by have := (pt t).isLt; omega⟩ 0) := by
    unfold pt; blk_ext [index1_9 t]
  refine e.trans ?_
  unfold out1 mlpOut
  have ek : (⟨((pt t).val * 2048 + (y 0).val) / 2048, by have := (pt t).isLt; omega⟩ : Fin 8) = pt t := Fin.ext (by
    show ((pt t).val * 2048 + (y 0).val) / 2048 = (pt t).val; omega)
  have er : (ix2 ⟨((pt t).val * 2048 + (y 0).val) % 2048, Nat.mod_lt _ (by decide)⟩ 0 : S2048x1.Idx) = y := by
    funext a
    match a with
    | 0 => exact Fin.ext (by show ((pt t).val * 2048 + (y 0).val) % 2048 = (y 0).val; omega)
    | 1 => exact Fin.ext (by show 0 = (y 1).val; omega)
  show k2_pay1 (rowBlk 416 ⟨((pt t).val * 2048 + (y 0).val) / 2048, _⟩ _) _ (rowBlk 13 ⟨((pt t).val * 2048 + (y 0).val) / 2048, _⟩ _) _ _ _ _ _ _
    (ix2 ⟨((pt t).val * 2048 + (y 0).val) % 2048, _⟩ 0) = _
  rw [ek, er]
  rfl

/-- After the last point the result array holds the perceptron's result of every row. -/
theorem final1_out (c : Dev nD) : (dat1 n V c).arrAt (9 : Fin 10) cfg2.N = out1 V c := by
  refine (dat1 n V c).arrAt_eq_of_covers (9 : Fin 10) _ (by decide +kernel) fun t _ y => ?_
  exact congrFun (out1_blk n V c t).symm y

end Cert.KernelIdeal.Proof

end
-- ==== Proof.Exact.Tile.lean ====
/-
  One tile's whole task — its four chunks in order — and what the SparseCore call's handshakes carry: every tile takes
  its four chunks of the index list and of the result and a share of the table, and brings them back with its rows of the
  result gathered.
-/
module

public import proofs.«01_k».proof.Proof.Exact.Chunk
public import Idealize.ShloMosaic.Lib.ShareLeaves

@[expose] public section

set_option maxRecDepth 16384

noncomputable section

namespace Cert.KernelIdeal.Proof

open Cert.KernelIdeal Cert.KernelIdeal.Gen

open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v6_scv : Memref Cert.KernelIdeal.sig Kind.scVector Space.hbm Cert.KernelIdeal.S425984 EltTy.i32)
local notation "bV" => (Memref.whole Cert.KernelIdeal.main_v9_scv : Memref Cert.KernelIdeal.sig Kind.scVector Space.hbm Cert.KernelIdeal.S2600000x16 EltTy.f32)
local notation "oV" => (Memref.whole Cert.KernelIdeal.main_v10_scv : Memref Cert.KernelIdeal.sig Kind.scVector Space.hbm Cert.KernelIdeal.S425984x16 EltTy.f32)
local notation "sV" => (Memref.whole Cert.KernelIdeal.cc1_scratch0 : Memref Cert.KernelIdeal.sig Kind.scVector Space.vmem Cert.KernelIdeal.S3328 EltTy.i32)
local notation "rV" => (Memref.whole Cert.KernelIdeal.cc1_scratch1 : Memref Cert.KernelIdeal.sig Kind.scVector Space.vmem Cert.KernelIdeal.S3328x16 EltTy.f32)

/-! ## A tile's semaphores and scratch buffers -/

/-- The nine copy semaphores a tile uses: its stream's, then two for each chunk. -/
def sems9 : Fin 9 → DmaSem sig :=
  ![cc1_scratch2.sem, cc1_scoped0.sem, cc1_scoped1.sem, cc1_scoped2.sem, cc1_scoped3.sem, cc1_scoped4.sem, cc1_scoped5.sem,
    cc1_scoped6.sem, cc1_scoped7.sem]

/-- The nine semaphores are distinct. -/
theorem sems9_injective : Function.Injective sems9 := by decide
/-- They are the tile's own. -/
theorem sems9_scoped : ∀ i : Fin 9, (SemLoc.dma (sems9 i) : SemLoc sig).isScoped .scVector = true := by decide

/-- The tile's cells of those semaphores. -/
def cells9 (d : Dev nD) (L : grid1.Coords) (i : Fin 9) : GSem nD τ sig := (tile d L, .dma (sems9 i))

/-- So their cells are distinct. -/
theorem cells9_injective (d : Dev nD) (L : grid1.Coords) : Function.Injective (cells9 d L) := fun i j h =>
  sems9_injective (by simpa [cells9] using h)

/-- The tile's own semaphores at zero: the nine, and the rest. -/
theorem ownSems0_tile (d : Dev nD) (L : grid1.Coords) :
    (ownSems0 (tile d L) : sProp 𝕄)
      = iprop((bigSep Finset.univ fun i : Fin 9 => semVal (cells9 d L i) 0)
          ∗ bigSep (ownCells (tile d L) \ Finset.univ.image (cells9 d L)) fun g => semVal g 0) := by
  unfold SparseCore.Cfg.ownSems0
  rw [SparseCore.bigSep_sdiff_split' (t := Finset.univ.image (cells9 d L)) (fun g hg => by
      obtain ⟨i, -, rfl⟩ := Finset.mem_image.mp hg
      exact mem_ownCells.mpr ⟨rfl, sems9_scoped i⟩),
    SparseCore.bigSep_image_of_injOn (cells9_injective d L).injOn]

/-- A conjunction over nine, written out. -/
theorem sep9 {M : Type} [URA M] (Φ : Fin 9 → sProp M) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [(0 : Fin 9), 1, 2, 3, 4, 5, 6, 7, 8] (by decide) (by decide) Φ
/-- A conjunction over four, written out. -/
theorem sep4 {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

/-- The tile's own buffers: the two scratch buffers at some contents, and the rest. -/
theorem ownBufs_tile (d : Dev nD) (L : grid1.Coords) :
    (ownBufs (tile d L) : sProp 𝕄)
      = iprop((∃ f, (tile d L).loc cc1_scratch0 ↦{fullShare} f) ∗ (∃ f, (tile d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  have h0 : (Proc.scVector (cV L) (jV L)).devRef cc1_scratch0 ∈ ownRefs (τ := τ) (Proc.scVector (cV L) (jV L)) :=
    SparseCore.Cfg.mem_ownRefs_of_owner rfl
  have h1 : (Proc.scVector (cV L) (jV L)).devRef cc1_scratch1 ∈
      (ownRefs (τ := τ) (Proc.scVector (cV L) (jV L))).erase ((Proc.scVector (cV L) (jV L)).devRef cc1_scratch0) :=
    Finset.mem_erase.mpr ⟨fun e => absurd (Proc.devRef_injective _ e) (show (cc1_scratch1 : Ref sig .scVector) ≠ cc1_scratch0 by decide),
      SparseCore.Cfg.mem_ownRefs_of_owner rfl⟩
  refine (SparseCore.bigSep_erase' h0).trans ?_
  rw [SparseCore.bigSep_erase' h1]

/-! ## The four chunks -/

section Task

variable [FloatOps F]

/-- What the chunks hand on to one another: the table's share, the two scratch buffers at anything, the stream's
    semaphore at zero, and what the tile owes. -/
def carried (d : Dev nD) (L : grid1.Coords) (q : PosShare TreeShare) (B : Buf (Elt F) (bLoc d))
    (O : CellTallies nD τ sig (HIx 1)) (W : Waits sig (HIx 1)) : sProp 𝕄 :=
  iprop((bLoc d ↦{q} B) ∗ (∃ fs, (tile d L).loc cc1_scratch0 ↦{fullShare} fs) ∗ (∃ fr, (tile d L).loc cc1_scratch1 ↦{fullShare} fr)
    ∗ semVal (tile d L, .dma cc1_scratch2.sem) 0 ∗ ∃ W', ⌜∀ p ∈ W', p ∈ W ∨ p.2 = none⌝ ∗ owes (tile d L) O W')

/-- One chunk and the statements after it. -/
theorem chunk_step (d : Dev nD) (L : grid1.Coords) (r : Fin 4) (sA sB : DmaSems sig S_) (q : PosShare TreeShare)
    (I : Buf (Elt F) (iLoc d)) (hI : ∀ x, (I x).toNat < 2600000) (B : Buf (Elt F) (bLoc d)) (f : Buf (Elt F) (oLoc d))
    (O : CellTallies nD τ sig (HIx 1)) (W : Waits sig (HIx 1)) (hO : ∀ g, O g none = 0)
    (k : PUnit → Prog (TpuEff nD τ sig (Elt F) Λ₀ (.scVector ((L 0).castLE hcore1) ((L 1).castLE hsub1))) PUnit) (Q : PUnit → sProp 𝕄) :
    iprop(levAts (K (F := F)).L (K (F := F)).lev ∗ carried d L q B O W
        ∗ (iPts d I (chunkNo (cN L) (sN L) r) ∗ oPts d f (chunkNo (cN L) (sN L) r))
        ∗ semVal (tile d L, .dma sA.sem) 0 ∗ semVal (tile d L, .dma sB.sem) 0
        ∗ (carried d L q B O W -∗ (iPts d I (chunkNo (cN L) (sN L) r) ∗ oPts d (gathered I B) (chunkNo (cN L) (sN L) r))
            -∗ semVal (tile d L, .dma sA.sem) 0 -∗ semVal (tile d L, .dma sB.sem) 0
            -∗ wp frame (wpE (defs₀ (F := F)) 𝒱₀ (tile d L) none) Set.univ (k ⟨⟩) Q))
      ⊢ wp frame (wpE (defs₀ (F := F)) 𝒱₀ (tile d L) none) Set.univ (chunk L r sA sB cc1_scratch2 >>= k) Q := by
  rw [wp_bind]
  unfold carried
  iintro ⟨#Hlv, ⟨Hb, Hs, Hr, HG, %W₁, %hW₁, HO⟩, ⟨Hi, Ho⟩, HA, HB, Hk⟩
  iapply (wp_wand_r frame _ _)
  isplitl [Hb Hs Hr HG HO Hi Ho HA HB]
  · iapply (chunk_wp d L r sA sB cc1_scratch2 q I hI B f O W₁ hO)
    isplitr; · iexact Hlv
    isplitl [Hi]; · iexact Hi
    isplitl [Hb]; · iexact Hb
    isplitl [Ho]; · iexact Ho
    isplitl [Hs]; · iexact Hs
    isplitl [Hr]; · iexact Hr
    isplitl [HA]; · iexact HA
    isplitl [HB]; · iexact HB
    isplitl [HG]; · iexact HG
    iexact HO
  · iintro %_ ⟨Hi, Hb, Ho, Hs, Hr, HA, HB, HG, %W₂, %hW₂, HO⟩
    iapply Hk $$ [Hb Hs Hr HG HO] [Hi Ho] HA HB
    · isplitl [Hb]; · iexact Hb
      isplitl [Hs]; · iexact Hs
      isplitl [Hr]; · iexact Hr
      isplitl [HG]; · iexact HG
      iexists W₂; isplitr
      · ipureintro; exact fun p hp => (hW₂ p hp).elim (fun h => hW₁ p h) .inr
      · iexact HO
    · isplitl [Hi]; · iexact Hi
      iexact Ho

/-- What one tile takes: its four chunks of the index list and of the result (at `f`), and its share of the table. -/
def piece (I : (d : Dev nD) → Buf (Elt F) (iLoc d)) (B : (d : Dev nD) → Buf (Elt F) (bLoc d)) (f : (d : Dev nD) → Buf (Elt F) (oLoc d))
    (d : Dev nD) (c : Fin 2) (s : Fin 16) : sProp 𝕄 :=
  iprop((bLoc d ↦{ShareLeaves.leaf 5 fullShare (tileNo c s)} B d)
    ∗ bigSep Finset.univ fun r : Fin 4 => iprop(iPts d (I d) (chunkNo c s r) ∗ oPts d (f d) (chunkNo c s r)))

/-- What the gather leaves, on every device. -/
def gath (I : (d : Dev nD) → Buf (Elt F) (iLoc d)) (B : (d : Dev nD) → Buf (Elt F) (bLoc d)) (d : Dev nD) : Buf (Elt F) (oLoc d) :=
  gathered (I d) (B d)

set_option maxHeartbeats 1000000 in
/-- The task of the tile at `L`: from its piece, its scratch buffers and its semaphores at zero, to the same with its
    rows of the result gathered. -/
theorem tile_body (I : (d : Dev nD) → Buf (Elt F) (iLoc d)) (B : (d : Dev nD) → Buf (Elt F) (bLoc d)) (f : (d : Dev nD) → Buf (Elt F) (oLoc d))
    (hI : ∀ d x, (I d x).toNat < 2600000) (d : Dev nD) (L : grid1.Coords)
    (O : CellTallies nD τ sig (HIx 1)) (W : Waits sig (HIx 1)) (hO : ∀ g, O g none = 0) :
    iprop(levAts (K (F := F)).L (K (F := F)).lev ∗ emp ∗ piece I B f d (cN L) (sN L)
        ∗ scopedBufs (tile d L) ∗ scopedSems0 (tile d L) ∗ owes (tile d L) O W)
      ⊢ wp frame (wpE (defs₀ (F := F)) 𝒱₀ (tile d L) none) Set.univ
          (cc1__sc_gather (F := F) L iV (Memref.isWhole_whole _) bV (Memref.isWhole_whole _) oV (Memref.isWhole_whole _)
            sV (Memref.isWhole_whole _) rV (Memref.isWhole_whole _) cc1_scratch2 cc1_scoped0 cc1_scoped1 cc1_scoped2 cc1_scoped3
            cc1_scoped4 cc1_scoped5 cc1_scoped6 cc1_scoped7)
          fun _ => iprop(piece I B (gath I B) d (cN L) (sN L)
            ∗ scopedBufs (tile d L) ∗ scopedSems0 (tile d L)
            ∗ ∃ W', ⌜∀ p ∈ W', p ∈ W ∨ p.2 = none⌝ ∗ owes (tile d L) O W') := by
  rw [body_eq_chunks, (K (F := F)).scopedBufs_V facts d (cV L) (jV L), SparseCore.Cfg.scopedSems0_V (Val := Elt F) d (cV L) (jV L),
    ownSems0_tile, ownBufs_tile]
  unfold piece
  rw [sep9, sep4, sep4]
  iintro ⟨#Hlv, -, ⟨Hb, P0, P1, P2, P3⟩, ⟨Hs, Hr, Hbufs⟩, ⟨⟨HG, A0, B0, A1, B1, A2, B2, A3, B3⟩, Hsems⟩, HO⟩
  ihave HC := (show iprop((bLoc d ↦{ShareLeaves.leaf 5 fullShare (tileNo (cN L) (sN L))} B d)
      ∗ (∃ fs, (tile d L).loc cc1_scratch0 ↦{fullShare} fs) ∗ (∃ fr, (tile d L).loc cc1_scratch1 ↦{fullShare} fr)
      ∗ semVal (cells9 d L 0) 0 ∗ owes (tile d L) O W)
      ⊢ (carried d L (ShareLeaves.leaf 5 fullShare (tileNo (cN L) (sN L))) (B d) O W : sProp 𝕄) by
    unfold carried
    iintro ⟨Hb, Hs, Hr, HG, HO⟩
    isplitl [Hb]; · iexact Hb
    isplitl [Hs]; · iexact Hs
    isplitl [Hr]; · iexact Hr
    isplitl [HG]; · iexact HG
    iexists W; isplitr
    · ipureintro; exact fun p hp => .inl hp
    · iexact HO) $$ [Hb Hs Hr HG HO]
  · isplitl [Hb]; · iexact Hb
    isplitl [Hs]; · iexact Hs
    isplitl [Hr]; · iexact Hr
    isplitl [HG]; · iexact HG
    iexact HO
  iapply (chunk_step d L 0 cc1_scoped0 cc1_scoped1 _ (I d) (hI d) (B d) (f d) O W hO) $$ [-]
  isplitr; · iexact Hlv
  isplitl [HC]; · iexact HC
  isplitl [P0]; · iexact P0
  isplitl [A0]; · iexact A0
  isplitl [B0]; · iexact B0
  iintro HC P0 A0 B0
  iapply (chunk_step d L 1 cc1_scoped2 cc1_scoped3 _ (I d) (hI d) (B d) (f d) O W hO) $$ [-]
  isplitr; · iexact Hlv
  isplitl [HC]; · iexact HC
  isplitl [P1]; · iexact P1
  isplitl [A1]; · iexact A1
  isplitl [B1]; · iexact B1
  iintro HC P1 A1 B1
  iapply (chunk_step d L 2 cc1_scoped4 cc1_scoped5 _ (I d) (hI d) (B d) (f d) O W hO) $$ [-]
  isplitr; · iexact Hlv
  isplitl [HC]; · iexact HC
  isplitl [P2]; · iexact P2
  isplitl [A2]; · iexact A2
  isplitl [B2]; · iexact B2
  iintro HC P2 A2 B2
  iapply (Entails.of_eq (congrArg (fun p => wp frame (wpE (defs₀ (F := F)) 𝒱₀ (tile d L) none) Set.univ p _)
    (bind_pure (chunk L 3 cc1_scoped6 cc1_scoped7 cc1_scratch2))))
  iapply (chunk_step d L 3 cc1_scoped6 cc1_scoped7 _ (I d) (hI d) (B d) (f d) O W hO) $$ [-]
  isplitr; · iexact Hlv
  isplitl [HC]; · iexact HC
  isplitl [P3]; · iexact P3
  isplitl [A3]; · iexact A3
  isplitl [B3]; · iexact B3
  iintro HC P3 A3 B3
  unfold carried
  icases HC with ⟨Hb, Hs, Hr, HG, HO⟩
  sl_step
  isplitl [Hb P0 P1 P2 P3]
  · isplitl [Hb]; · iexact Hb
    isplitl [P0]; · iexact P0
    isplitl [P1]; · iexact P1
    isplitl [P2]; · iexact P2
    iexact P3
  isplitl [Hs Hr Hbufs]
  · isplitl [Hs]; · iexact Hs
    isplitl [Hr]; · iexact Hr
    iexact Hbufs
  isplitl [HG A0 B0 A1 B1 A2 B2 A3 B3 Hsems]
  · isplitr [Hsems]
    · isplitl [HG]; · iexact HG
      isplitl [A0]; · iexact A0
      isplitl [B0]; · iexact B0
      isplitl [A1]; · iexact A1
      isplitl [B1]; · iexact B1
      isplitl [A2]; · iexact A2
      isplitl [B2]; · iexact B2
      isplitl [A3]; · iexact A3
      iexact B3
    · iexact Hsems
  iexact HO

/-! ## The call's handshakes -/

/-- The call runs on two SparseCores. -/
theorem nCore_zero : (K (F := F)).nCore 0 = 2 := rfl
/-- It runs on sixteen tiles of each. -/
theorem nSub_zero : (K (F := F)).nSub 0 = 16 := rfl

variable (I : (d : Dev nD) → Buf (Elt F) (iLoc d)) (B : (d : Dev nD) → Buf (Elt F) (bLoc d)) (f : (d : Dev nD) → Buf (Elt F) (oLoc d))

/-- The call carries the index list `I`, the table `B` and the result at `f`, tile by tile, and back with the result
    gathered. -/
def pay : (K (F := F)).Pay (nD := nD) (Val := Elt F) (Name := ℕ) (U := UU) where
  st := fun q d c => match q with | 0 => bigSep Finset.univ fun s : Fin 16 => piece I B f d (Fin.cast nCore_zero c) s
  dn := fun q d c => match q with | 0 => bigSep Finset.univ fun s : Fin 16 => piece I B (gath I B) d (Fin.cast nCore_zero c) s
  go := fun q d c s => match q with | 0 => piece I B f d (Fin.cast nCore_zero c) (Fin.cast nSub_zero s)
  td := fun q d c s => match q with | 0 => piece I B (gath I B) d (Fin.cast nCore_zero c) (Fin.cast nSub_zero s)
  x := fun _ _ => iprop(emp)

/-- A tile's piece may be stored in an invariant. -/
instance piece_storable (d : Dev nD) (c : Fin 2) (s : Fin 16) : BI.Storable (upEmb : UEmb _ 𝕄) (piece I B f d c s) := by
  unfold piece; infer_instance

/-- What the handshakes carry may be stored in an invariant. -/
instance pay_storable : (pay I B f).IsStorable where
  st q d c := match q with
    | 0 => (inferInstance : BI.Storable (upEmb : UEmb _ 𝕄) (bigSep Finset.univ fun s : Fin 16 => piece I B f d (Fin.cast nCore_zero c) s))
  dn q d c := match q with
    | 0 => (inferInstance : BI.Storable (upEmb : UEmb _ 𝕄) (bigSep Finset.univ fun s : Fin 16 => piece I B (gath I B) d (Fin.cast nCore_zero c) s))
  go q d c s := match q with
    | 0 => (inferInstance : BI.Storable (upEmb : UEmb _ 𝕄) (piece I B f d (Fin.cast nCore_zero c) (Fin.cast nSub_zero s)))
  td q d c s := match q with
    | 0 => (inferInstance : BI.Storable (upEmb : UEmb _ 𝕄) (piece I B (gath I B) d (Fin.cast nCore_zero c) (Fin.cast nSub_zero s)))

/-- A conjunction over the tiles of the call is one over sixteen. -/
theorem sep_tiles (Φ : Fin 16 → sProp 𝕄) :
    (bigSep Finset.univ fun s : Fin ((K (F := F)).nSub 0) => Φ (Fin.cast nSub_zero s)) = bigSep Finset.univ Φ :=
  bigSep_congr fun _ _ => congrArg Φ (Fin.ext rfl)

/-- A SparseCore's operands are its tiles', and what its tiles bring back is what it brings back. -/
theorem vecSplit : (K (F := F)).VecSplit' (pay I B f) 0 := by
  intro d c
  show (bigSep Finset.univ fun s : Fin 16 => piece I B f d (Fin.cast nCore_zero c) s) ⊢ |={Set.univ}=> iprop(
      (bigSep Finset.univ fun s : Fin ((K (F := F)).nSub 0) => piece I B f d (Fin.cast nCore_zero c) (Fin.cast nSub_zero s))
      ∗ ((bigSep Finset.univ fun s : Fin ((K (F := F)).nSub 0) => piece I B (gath I B) d (Fin.cast nCore_zero c) (Fin.cast nSub_zero s))
          -∗ bigSep Finset.univ fun s : Fin 16 => piece I B (gath I B) d (Fin.cast nCore_zero c) s))
  rw [sep_tiles (fun s => piece I B f d (Fin.cast nCore_zero c) s), sep_tiles (fun s => piece I B (gath I B) d (Fin.cast nCore_zero c) s)]
  iintro H; imodintro
  isplitl [H]; · iexact H
  iintro H; iexact H

/-- The grid coordinates of tile `s` of SparseCore `c`. -/
def coords (c : Fin (grid1.bound 0)) (s : Fin (grid1.bound 1)) : grid1.Coords :=
  fun | 0 => c | 1 => s | ⟨_ + 2, h⟩ => absurd h (Nat.not_lt.2 (Nat.le_add_left _ _))

/-- The tile's task is the printed body at its coordinates. -/
theorem defs₀_tile (c : Fin τ.nSC) (s : Fin τ.nSub) :
    defs₀ (F := F) (.scVector c s) 1 ()
      = SparseCore.onTile hcore1 hsub1 (fun c s => cc1__sc_gather (coords c s)
          iV (Memref.isWhole_whole _) bV (Memref.isWhole_whole _) oV (Memref.isWhole_whole _)
          sV (Memref.isWhole_whole _) rV (Memref.isWhole_whole _) cc1_scratch2 cc1_scoped0 cc1_scoped1 cc1_scoped2 cc1_scoped3
          cc1_scoped4 cc1_scoped5 cc1_scoped6 cc1_scoped7) ⟨⟩ c s := rfl

/-- What a thread has waited for may be described more loosely. -/
theorem owes_loosen {thr : Thread nD τ} {O : CellTallies nD τ sig (HIx 1)} {P Q : Waits sig (HIx 1) → Prop} (h : ∀ W', P W' → Q W') :
    (iprop(∃ W', ⌜P W'⌝ ∗ owes thr O W') : sProp 𝕄) ⊢ iprop(∃ W', ⌜Q W'⌝ ∗ owes thr O W') := by
  iintro ⟨%W', %hP, HO⟩
  iexists W'
  isplitr [HO]
  · ipureintro; exact h W' hP
  · iexact HO

/-- Every tile's task does what the call's handshakes say. -/
theorem tileObl (hI : ∀ d x, (I d x).toNat < 2600000) : (K (F := F)).TileObl (D (F := F)) 𝒱 (pay I B f) v₀ 0 := by
  intro d c i O W hO _ _
  simp only [show (pay I B f).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body I B f hI d (coords ⟨_, hci.1⟩ ⟨_, hci.2⟩) O W hO).trans (wp_mono frame _ _ fun _ =>
    sep_mono .rfl (sep_mono .rfl (sep_mono .rfl (owes_loosen fun _ h p hp => (h p hp).imp_right Or.inl))))

end Task

end Cert.KernelIdeal.Proof

end
-- ==== Proof.Exact.Split.lean ====
/-
  The SparseCore call's operands as the TensorCore holds them — the index list, the table and the result, whole — are
  the 32 tiles' pieces: the two lists cut into 128 chunks, the table shared 32 ways.
-/
module

public import proofs.«01_k».proof.Proof.Exact.Tile

@[expose] public section

set_option maxRecDepth 16384

noncomputable section

namespace Cert.KernelIdeal.Proof

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The numbering of the tiles and of the chunks -/

/-- Tile `s` of SparseCore `c` is tile `2 s + c` of the 32. -/
def tileEquiv : Fin 2 × Fin 16 ≃ Fin 32 where
  toFun p := tileNo p.1 p.2
  invFun k := (⟨k.val % 2, Nat.mod_lt _ (by decide)⟩, ⟨k.val / 2, by omega⟩)
  left_inv p := Prod.ext (Fin.ext (by show (p.2.val * 2 + p.1.val) % 2 = p.1.val; omega))
    (Fin.ext (by show (p.2.val * 2 + p.1.val) / 2 = p.2.val; omega))
  right_inv k := Fin.ext (by show k.val / 2 * 2 + k.val % 2 = k.val; omega)

/-- Its four chunks follow one another. -/
def chunkEquiv : (Fin 2 × Fin 16) × Fin 4 ≃ Fin 128 where
  toFun p := chunkNo p.1.1 p.1.2 p.2
  invFun k := ((⟨k.val / 4 % 2, Nat.mod_lt _ (by decide)⟩, ⟨k.val / 4 / 2, by omega⟩), ⟨k.val % 4, Nat.mod_lt _ (by decide)⟩)
  left_inv p := Prod.ext (Prod.ext (Fin.ext (by show ((p.1.2.val * 2 + p.1.1.val) * 4 + p.2.val) / 4 % 2 = p.1.1.val; omega))
      (Fin.ext (by show ((p.1.2.val * 2 + p.1.1.val) * 4 + p.2.val) / 4 / 2 = p.1.2.val; omega)))
    (Fin.ext (by show ((p.1.2.val * 2 + p.1.1.val) * 4 + p.2.val) % 4 = p.2.val; omega))
  right_inv k := Fin.ext (by show (k.val / 4 / 2 * 2 + k.val / 4 % 2) * 4 + k.val % 4 = k.val; omega)

/-- A conjunction over the 128 chunks, tile by tile. -/
theorem sep_chunks {M : Type} [URA M] (Φ : Fin 128 → sProp M) :
    bigSep Finset.univ Φ = bigSep Finset.univ fun c : Fin 2 => bigSep Finset.univ fun s : Fin 16 => bigSep Finset.univ fun r : Fin 4 => Φ (chunkNo c s r) := by
  rw [bigSep_univ_equiv chunkEquiv, bigSep_univ_prod, bigSep_univ_prod]
  rfl

/-- A conjunction over the 32 tiles, SparseCore by SparseCore. -/
theorem sep_pairs {M : Type} [URA M] (Φ : Fin 32 → sProp M) :
    bigSep Finset.univ Φ = bigSep Finset.univ fun c : Fin 2 => bigSep Finset.univ fun s : Fin 16 => Φ (tileNo c s) := by
  rw [bigSep_univ_equiv tileEquiv, bigSep_univ_prod]
  rfl

/-- Two conjuncts change places. -/
theorem sep_swap {M : Type} [URA M] (P Q R : sProp M) : (iprop(P ∗ Q ∗ R) : sProp M) = iprop(Q ∗ P ∗ R) := by
  have h : ∀ A B : sProp M, iprop(A ∗ B ∗ R) ⊢ iprop(B ∗ A ∗ R) := fun A B => by
    iintro ⟨HA, HB, HR⟩
    isplitl [HB]; · iexact HB
    isplitl [HA]; · iexact HA
    iexact HR
  exact Entails.antisymm (h P Q) (h Q P)

/-! ## The three arrays cut up -/

/-- The list is its 128 parts. -/
theorem iWhole (d : Dev nD) (I : Buf (Elt F) (iLoc d)) :
    (iLoc d ↦{fullShare} I : sProp 𝕄) = bigSep Finset.univ fun k : Fin 128 => iPts d I k := by
  rw [← pointsTo_biUnion Finset.univ (ℓ := iLoc d) (fun k : Fin 128 => iSet k) (fun i _ j _ h => Rect.part_disjoint idiv h),
    Rect.biUnion_part idiv]; try rfl
/-- The result is its 128 parts. -/
theorem oWhole (d : Dev nD) (O : Buf (Elt F) (oLoc d)) :
    (oLoc d ↦{fullShare} O : sProp 𝕄) = bigSep Finset.univ fun k : Fin 128 => oPts d O k := by
  rw [← pointsTo_biUnion Finset.univ (ℓ := oLoc d) (fun k : Fin 128 => oSet k) (fun i _ j _ h => Rect.part_disjoint odiv h),
    Rect.biUnion_part odiv]; try rfl
/-- The table is held as 32 shares, one for each tile. -/
theorem bWhole (d : Dev nD) (B : Buf (Elt F) (bLoc d)) :
    (bLoc d ↦{fullShare} B : sProp 𝕄) = bigSep Finset.univ fun k : Fin 32 => bLoc d ↦{ShareLeaves.leaf 5 fullShare k} B :=
  ShareLeaves.pointsTo_leaves Finset.univ B 5 fullShare

variable (I : (d : Dev nD) → Buf (Elt F) (iLoc d)) (B : (d : Dev nD) → Buf (Elt F) (bLoc d)) (f : (d : Dev nD) → Buf (Elt F) (oLoc d))

/-- The three arrays, whole, are the pieces of all the tiles. -/
theorem pieces_eq (d : Dev nD) :
    (iprop((iLoc d ↦{fullShare} I d) ∗ (bLoc d ↦{fullShare} B d) ∗ (oLoc d ↦{fullShare} f d)) : sProp 𝕄)
      = bigSep Finset.univ fun c : Fin 2 => bigSep Finset.univ fun s : Fin 16 => piece I B f d c s := by
  have e : (bigSep Finset.univ fun c : Fin 2 => bigSep Finset.univ fun s : Fin 16 => piece I B f d c s : sProp 𝕄)
      = iprop((bigSep Finset.univ fun c : Fin 2 => bigSep Finset.univ fun s : Fin 16 => bLoc d ↦{ShareLeaves.leaf 5 fullShare (tileNo c s)} B d)
        ∗ (bigSep Finset.univ fun c : Fin 2 => bigSep Finset.univ fun s : Fin 16 => bigSep Finset.univ fun r : Fin 4 => iPts d (I d) (chunkNo c s r))
        ∗ (bigSep Finset.univ fun c : Fin 2 => bigSep Finset.univ fun s : Fin 16 => bigSep Finset.univ fun r : Fin 4 => oPts d (f d) (chunkNo c s r))) := by
    unfold piece
    simp only [bigSep_sep']
  rw [e, iWhole, bWhole, oWhole, sep_chunks, sep_chunks, sep_pairs]
  exact sep_swap _ _ _

variable [FloatOps F]

/-- What the TensorCore hands the SparseCores at the call's start: the three arrays. -/
theorem st_eq (d : Dev nD) : (bigSep Finset.univ fun c : Fin ((K (F := F)).nCore 0) => (pay I B f).st 0 d c)
    = (iprop((iLoc d ↦{fullShare} I d) ∗ (bLoc d ↦{fullShare} B d) ∗ (oLoc d ↦{fullShare} f d)) : sProp 𝕄) :=
  (pieces_eq I B f d).symm

/-- What they hand back: the three arrays, the rows gathered. -/
theorem dn_eq (d : Dev nD) : (bigSep Finset.univ fun c : Fin ((K (F := F)).nCore 0) => (pay I B f).dn 0 d c)
    = (iprop((iLoc d ↦{fullShare} I d) ∗ (bLoc d ↦{fullShare} B d) ∗ (oLoc d ↦{fullShare} gath I B d)) : sProp 𝕄) :=
  (pieces_eq I B (gath I B) d).symm

end Cert.KernelIdeal.Proof

end
-- ==== Proof.Exact.Steps.lean ====
/-
  The contents of every buffer of the TensorCore after each step of @main: the host's lines, the first pipeline, the
  gather, the second pipeline. Then the proof data of the two pipelines at those contents, and what the last contents are
  at the arguments and at the result.
-/
module

public import proofs.«01_k».proof.Proof.Exact.Index
public import proofs.«01_k».proof.Proof.Exact.Mlp
public import proofs.«01_k».proof.Proof.Exact.Split

@[expose] public section

set_option maxRecDepth 16384

noncomputable section

namespace Cert.KernelIdeal.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.TcCoe
open Idealize.ShloMosaic.StableHlo (after held)

variable {F : FTy → Type} [FloatOps F]

local notation "𝕄" => MT nD τ sig (HIx 1) (Elt F) ℕ UU ℕ

/-! ## The host's lines -/

/-- Before the first pipeline: the list of rows, and the tables transposed. -/
def lineA : List (HloOp τ sig (Elt F)) :=
  [StableHlo.nullary main_v0 (iotaInDim S26 32 0),
   StableHlo.unary main_v0 main_v1 (broadcastInDim S1x26 ![1] bcast_S26_S1x26_1 : (⟨S26, .i32⟩ : BufTy).Contents (Elt F) → (⟨S1x26, .i32⟩ : BufTy).Contents (Elt F)),
   StableHlo.nullary main_c (constantI S_ 32 100000#32),
   StableHlo.unary main_c main_v2 (broadcastInDim S1x26 ![] bcast_S_S1x26 : (⟨S_, .i32⟩ : BufTy).Contents (Elt F) → (⟨S1x26, .i32⟩ : BufTy).Contents (Elt F)),
   StableHlo.binary main_v1 main_v2 main_v3 (muli : (⟨S1x26, .i32⟩ : BufTy).Contents (Elt F) → (⟨S1x26, .i32⟩ : BufTy).Contents (Elt F) → (⟨S1x26, .i32⟩ : BufTy).Contents (Elt F)),
   StableHlo.unary main_v3 main_v4 (broadcastInDim S16384x26 ![0, 1] bcast_S1x26_S16384x26_0_1 : (⟨S1x26, .i32⟩ : BufTy).Contents (Elt F) → (⟨S16384x26, .i32⟩ : BufTy).Contents (Elt F)),
   StableHlo.binary main_arg1 main_v4 main_v5 (addi : (⟨S16384x26, .i32⟩ : BufTy).Contents (Elt F) → (⟨S16384x26, .i32⟩ : BufTy).Contents (Elt F) → (⟨S16384x26, .i32⟩ : BufTy).Contents (Elt F)),
   StableHlo.reshape main_v5 main_v6 (rfl : (.i32 : EltTy) = .i32) shapeCasts_S16384x26_S425984,
   StableHlo.unary main_arg2 main_v7 ((transpose S26x16x100000 [0, 2, 1] · transposes_S26x100000x16_S26x16x100000_0_2_1) : (⟨S26x100000x16, .f32⟩ : BufTy).Contents (Elt F) → (⟨S26x16x100000, .f32⟩ : BufTy).Contents (Elt F))]

/-- Between the first pipeline and the gather: the table flattened. -/
def lineB : List (HloOp τ sig (Elt F)) :=
  [StableHlo.reshape main_v8 main_v9 (rfl : (.f32 : EltTy) = .f32) shapeCasts_S26x100000x16_S2600000x16]

/-- Between the gather and the second pipeline: the rows of a batch row side by side, and the weights cut. -/
def lineC : List (HloOp τ sig (Elt F)) :=
  [StableHlo.reshape main_v10 main_v11 (rfl : (.f32 : EltTy) = .f32) shapeCasts_S425984x16_S16384x416,
   StableHlo.unary main_arg3 main_v12 ((extractStridedSlice S13x128 ![0, 0] · slices_S429x128_S13x128_0_0) : (⟨S429x128, .f32⟩ : BufTy).Contents (Elt F) → (⟨S13x128, .f32⟩ : BufTy).Contents (Elt F)),
   StableHlo.unary main_arg3 main_v13 ((extractStridedSlice S416x128 ![13, 0] · slices_S429x128_S416x128_13_0) : (⟨S429x128, .f32⟩ : BufTy).Contents (Elt F) → (⟨S416x128, .f32⟩ : BufTy).Contents (Elt F)),
   StableHlo.unary main_arg4 main_v14 (broadcastInDim S1x128 ![1] bcast_S128_S1x128_1 : (⟨S128, .f32⟩ : BufTy).Contents (Elt F) → (⟨S1x128, .f32⟩ : BufTy).Contents (Elt F)),
   StableHlo.unary main_arg6 main_v15 (broadcastInDim S1x64 ![1] bcast_S64_S1x64_1 : (⟨S64, .f32⟩ : BufTy).Contents (Elt F) → (⟨S1x64, .f32⟩ : BufTy).Contents (Elt F)),
   StableHlo.unary main_arg8 main_v16 (broadcastInDim S1x1 ![1] bcast_S1_S1x1_1 : (⟨S1, .f32⟩ : BufTy).Contents (Elt F) → (⟨S1x1, .f32⟩ : BufTy).Contents (Elt F))]

/-- The first line's operations touch buffers the TensorCore holds. -/
theorem lineA_sub : ∀ op ∈ lineA (F := F), op.bufs ⊆ ucRefs τ sig := fun op h => sub_ucRefs op
  (List.forall_iff_forall_mem.mp (show (lineA (F := F)).Forall fun op => op.bufs ⊆ StableHlo.tcRefs τ sig by simp [lineA]) op h)
/-- So do the second's. -/
theorem lineB_sub : ∀ op ∈ lineB (F := F), op.bufs ⊆ ucRefs τ sig := fun op h => sub_ucRefs op
  (List.forall_iff_forall_mem.mp (show (lineB (F := F)).Forall fun op => op.bufs ⊆ StableHlo.tcRefs τ sig by simp [lineB]) op h)
/-- So do the third's. -/
theorem lineC_sub : ∀ op ∈ lineC (F := F), op.bufs ⊆ ucRefs τ sig := fun op h => sub_ucRefs op
  (List.forall_iff_forall_mem.mp (show (lineC (F := F)).Forall fun op => op.bufs ⊆ StableHlo.tcRefs τ sig by simp [lineC]) op h)

/-- The first line allocates nothing. -/
theorem lineA_fresh : ∀ op ∈ lineA (F := F), op.fresh = ∅ := List.forall_iff_forall_mem.mp ⟨rfl, rfl, rfl, rfl, rfl, rfl, rfl, rfl, rfl⟩
/-- Nor does the second. -/
theorem lineB_fresh : ∀ op ∈ lineB (F := F), op.fresh = ∅ := List.forall_iff_forall_mem.mp (show (lineB (F := F)).Forall _ from rfl)
/-- Nor does the third. -/
theorem lineC_fresh : ∀ op ∈ lineC (F := F), op.fresh = ∅ := List.forall_iff_forall_mem.mp ⟨rfl, rfl, rfl, rfl, rfl, rfl⟩

/-- The main function is its three lines, with the pipelines and the gather between them. -/
theorem main_eq (d : Dev nD) : main (F := F) d = (StableHlo.seq lineA >>= fun _ =>
    Prog.lift (.customCall (SparseCore.inner (Pipeline.entry 0)) ()) >>= fun _ => StableHlo.seq lineB >>= fun _ =>
    (K (F := F)).run d 0 >>= fun _ => StableHlo.seq lineC >>= fun _ =>
    Prog.lift (.customCall (SparseCore.inner (Pipeline.entry 1)) ()) >>= fun _ => pure ⟨⟩) := by
  rw [StableHlo.seq_bind_seqK, StableHlo.seq_bind_seqK, StableHlo.seq_bind_seqK]
  rfl

/-! ## The pipelines as steps -/

section AtContents

variable (V W : Dev nD → Valuation τ sig (Elt F))

/-- The two pipelines' proof data, the first entered at `V` and the second at `W`. -/
def pdatsAt : (p : Fin 2) → (c : Dev nD) → Dat τ (Elt F) (HIx 1) ℕ UU ℕ (pin (pcfgs (F := F)) adm p) c
  | 0, c => dat0 0 V c
  | 1, c => dat1 1 W c

/-- The first pipeline holds its arrays whole. -/
theorem share0 (c : Dev nD) (w : Fin 2) : (dat0 0 V c).share w = fullShare := by unfold Dat.share; split <;> rfl
/-- So does the second. -/
theorem share1 (c : Dev nD) (w : Fin 10) : (dat1 1 W c).share w = fullShare := by unfold Dat.share; split <;> rfl

/-- The second pipeline's invariant is its scoped buffers. -/
theorem phi1 (c : Dev nD) (t) : (dat1 1 W c).Φ t = (scopedRest (pin (pcfgs (F := F)) adm 1).spec c : sProp 𝕄) := by
  unfold dat1
  dsimp only

/-- A pipeline's invariant holds its scoped buffers, at every point. -/
theorem phi (p : Fin 2) (c : Dev nD) (t) : (pdatsAt V W p c).Φ t = (scopedRest (pin (pcfgs (F := F)) adm p).spec c : sProp 𝕄) :=
  match p with
  | 0 => rfl
  | 1 => phi1 W c t
/-- The scoped buffers give the invariant at the first point. -/
theorem phi_in (p : Fin 2) (c : Dev nD) : (scopedRest (pin (pcfgs (F := F)) adm p).spec c : sProp 𝕄) ⊢ (pdatsAt V W p c).Φ 0 := by
  rw [phi]
/-- The invariant at the end gives the scoped buffers back. -/
theorem phi_out (p : Fin 2) (c : Dev nD) :
    (pdatsAt V W p c).Φ (Fin.last (pin (pcfgs (F := F)) adm p).N) ⊢ (scopedRest (pin (pcfgs (F := F)) adm p).spec c : sProp 𝕄) := by
  rw [phi]

/-- A pipeline runs as a step once its bodies are proved and its data are those of the contents it is entered at. -/
theorem stepAt (p : Fin 2) (n : ℕ) (X : Dev nD → Valuation τ sig (Elt F)) (kit : LaunchFacts (nD := nD) (τ := τ) cfgs p)
    (hbody : ∀ c, BodyObligationLoose (pdatsAt V W p c) defs₀ 𝒱₀ none Set.univ)
    (howed : ∀ c t, (pdatsAt V W p c).owed t = (K (F := F)).Otc c n) (hrec : ∀ c t, (pdatsAt V W p c).recorded t = recorded (F := F) c n)
    (hshare : ∀ c w, (pdatsAt V W p c).share w = fullShare)
    (hA : ∀ c w, (pdatsAt V W p c).A w = X c (Proc.devRef .tc (arrRef (pin (pcfgs (F := F)) adm p).spec w))) :
    StepFacts (pdatsAt V W) p n X :=
  ⟨kit, hbody, howed, hrec, hshare, phi_in V W p, phi_out V W p, hA⟩

/-- The first pipeline runs as a step. -/
theorem step0 : StepFacts (pdatsAt V W) 0 0 V :=
  stepAt V W 0 0 V launch0 (fun c => body0 0 V c) (fun _ _ => rfl) (fun _ _ => rfl) (fun c w => share0 V c w) (fun _ _ => rfl)

/-- The second pipeline runs as a step. -/
theorem step1 : StepFacts (pdatsAt V W) 1 1 W :=
  stepAt V W 1 1 W launch2 (fun c => body1 1 W c) (fun _ _ => rfl) (fun _ _ => rfl) (fun c w => share1 W c w) (fun _ _ => rfl)

end AtContents

/-! ## The contents after each step -/

variable (m : (ℓ : Loc nD τ sig) → Buf (Elt F) ℓ)

/-- At the launch. -/
def V0 (d : Dev nD) : Valuation τ sig (Elt F) := fun b => m (d, b)
/-- Where the first pipeline is entered. -/
def V1 (d : Dev nD) : Valuation τ sig (Elt F) := after lineA (V0 m d)
/-- After it. -/
def V2 (d : Dev nD) : Valuation τ sig (Elt F) := afterRegion (dat0 0 (V1 m) d) (V1 m d)
/-- Where the gather is started. -/
def V3 (d : Dev nD) : Valuation τ sig (Elt F) := after lineB (V2 m d)

/-- The list of rows the gather reads, its table, and what its result's array held before. -/
def Ix (d : Dev nD) : Buf (Elt F) (iLoc d) := V3 m d (Proc.devRef .tc main_v6)
/-- The gather's table. -/
def Tb (d : Dev nD) : Buf (Elt F) (bLoc d) := V3 m d (Proc.devRef .tc main_v9)
/-- What the gather's result held before. -/
def Old (d : Dev nD) : Buf (Elt F) (oLoc d) := V3 m d (Proc.devRef .tc main_v10)

/-- After the gather. -/
def V4 (d : Dev nD) : Valuation τ sig (Elt F) :=
  Function.update (V3 m d) (Proc.devRef .tc main_v10) (gath (Ix m) (Tb m) d)
/-- Where the second pipeline is entered. -/
def V5 (d : Dev nD) : Valuation τ sig (Elt F) := after lineC (V4 m d)
/-- After it. -/
def V6 (d : Dev nD) : Valuation τ sig (Elt F) := afterRegion (dat1 1 (V5 m) d) (V5 m d)

/-! ## What no step writes -/

/-- The buffers some step writes. -/
def written : List (Ref sig .tc) := [main_v0, main_v1, main_c, main_v2, main_v3, main_v4, main_v5, main_v6, main_v7, main_v8, main_v9, main_v10,
  main_v11, main_v12, main_v13, main_v14, main_v15, main_v16, main_v17]

/-- The first line changes only the buffers it writes. -/
theorem lineA_keeps (V : Valuation τ sig (Elt F)) {r : Ref sig .tc}
    (h : r ∉ [main_v0, main_v1, main_c, main_v2, main_v3, main_v4, main_v5, main_v6, main_v7]) :
    after lineA V (Proc.devRef .tc r) = V (Proc.devRef .tc r) :=
  StableHlo.after_of_writes_sub lineA V (StableHlo.forall_writes_sub_of_map rfl) h
/-- The second line changes only the buffer it writes. -/
theorem lineB_keeps (V : Valuation τ sig (Elt F)) {r : Ref sig .tc} (h : r ∉ [main_v9]) :
    after lineB V (Proc.devRef .tc r) = V (Proc.devRef .tc r) :=
  StableHlo.after_of_writes_sub lineB V (StableHlo.forall_writes_sub_of_map rfl) h
/-- The third line changes only the buffers it writes. -/
theorem lineC_keeps (V : Valuation τ sig (Elt F)) {r : Ref sig .tc}
    (h : r ∉ [main_v11, main_v12, main_v13, main_v14, main_v15, main_v16]) :
    after lineC V (Proc.devRef .tc r) = V (Proc.devRef .tc r) :=
  StableHlo.after_of_writes_sub lineC V (StableHlo.forall_writes_sub_of_map rfl) h

/-- The first pipeline changes only its result. -/
theorem V2_keeps (d : Dev nD) {r : Ref sig .tc} (h : r ≠ main_v8) : V2 m d (Proc.devRef .tc r) = V1 m d (Proc.devRef .tc r) :=
  afterRegion_keeps (dat0 0 (V1 m) d) (V1 m d) launch0.win.arr_inj (fun _ => rfl) r fun w hw => by
    match w with
    | ⟨0, _⟩ => rfl
    | ⟨1, _⟩ => exact absurd hw.symm h
/-- The second pipeline changes only its result. -/
theorem V6_keeps (d : Dev nD) {r : Ref sig .tc} (h : r ≠ main_v17) : V6 m d (Proc.devRef .tc r) = V5 m d (Proc.devRef .tc r) :=
  afterRegion_keeps (dat1 1 (V5 m) d) (V5 m d) launch2.win.arr_inj (fun _ => rfl) r fun w hw => by
    match w with
    | ⟨0, _⟩ => rfl | ⟨1, _⟩ => rfl | ⟨2, _⟩ => rfl | ⟨3, _⟩ => rfl | ⟨4, _⟩ => rfl
    | ⟨5, _⟩ => rfl | ⟨6, _⟩ => rfl | ⟨7, _⟩ => rfl | ⟨8, _⟩ => rfl
    | ⟨9, _⟩ => exact absurd hw.symm h
/-- The gather changes only its result. -/
theorem V4_keeps (d : Dev nD) {r : Ref sig .tc} (h : r ≠ main_v10) : V4 m d (Proc.devRef .tc r) = V3 m d (Proc.devRef .tc r) :=
  Function.update_of_ne (fun e => h (Proc.devRef_injective _ e)) _ _

/-- Up to the gather, a buffer that nothing writes holds what it held at the launch. -/
theorem V4_untouched (d : Dev nD) {r : Ref sig .tc} (h : r ∉ written) : V4 m d (Proc.devRef .tc r) = V0 m d (Proc.devRef .tc r) := by
  simp only [written, List.mem_cons, List.not_mem_nil, or_false, not_or] at h
  refine (V4_keeps m d (by tauto)).trans ((lineB_keeps _ (by simp; tauto)).trans ((V2_keeps m d (by tauto)).trans (lineA_keeps _ (by simp; tauto))))

/-- At the end, a buffer that nothing writes holds what it held at the launch. -/
theorem V6_untouched (d : Dev nD) {r : Ref sig .tc} (h : r ∉ written) : V6 m d (Proc.devRef .tc r) = V0 m d (Proc.devRef .tc r) := by
  have h' := h
  simp only [written, List.mem_cons, List.not_mem_nil, or_false, not_or] at h
  exact (V6_keeps m d (by tauto)).trans ((lineC_keeps _ (by simp; tauto)).trans (V4_untouched m d h'))

/-! ## The values -/

/-- The list after the first line: the rows asked for. -/
theorem V1_rows (d : Dev nD) : (V1 m d (Proc.devRef .tc main_v6) : S425984.Idx → BitVec 32) = idxOf (V0 m d (Proc.devRef .tc main_arg1)) := by
  unfold V1 lineA
  after_results_simp
  rfl

/-- The table after the first line: transposed. -/
theorem V1_planes (d : Dev nD) : (V1 m d (Proc.devRef .tc main_v7) : S26x16x100000.Idx → Elt F .f32)
    = transpose S26x16x100000 [0, 2, 1] (V0 m d (Proc.devRef .tc main_arg2) : S26x100000x16.Idx → Elt F .f32) transposes_S26x100000x16_S26x16x100000_0_2_1 := by
  unfold V1 lineA
  after_results_simp
  try rfl

/-- The gather's list of rows. -/
theorem Ix_eq (d : Dev nD) : (Ix m d : S425984.Idx → BitVec 32) = idxOf (V0 m d (Proc.devRef .tc main_arg1)) :=
  (lineB_keeps (V2 m d) (r := main_v6) (by decide)).trans ((V2_keeps m d (by decide)).trans (V1_rows m d))

/-- The gather's table. -/
theorem Tb_eq (d : Dev nD) : (Tb m d : S2600000x16.Idx → Elt F .f32) = tblOf (V0 m d (Proc.devRef .tc main_arg2)) := by
  have h8 : (V2 m d (Proc.devRef .tc main_v8) : S26x100000x16.Idx → Elt F .f32) = tr (src0 (V1 m) d) :=
    (afterRegion_arr (dat0 0 (V1 m) d) (V1 m d) launch0.win.arr_inj 1).trans (final0_out 0 (V1 m) d)
  have h9 : (Tb m d : S2600000x16.Idx → Elt F .f32) = shapeCast S2600000x16 (V2 m d (Proc.devRef .tc main_v8) : S26x100000x16.Idx → Elt F .f32) shapeCasts_S26x100000x16_S2600000x16 := by
    unfold Tb V3 lineB
    after_results_simp
    try rfl
  rw [h9, h8]
  unfold src0 tblOf
  rw [V1_planes]

/-- The gathered rows, a batch row's side by side. -/
def emb (x : S16384x26.Idx → BitVec 32) (E : S26x100000x16.Idx → Elt F .f32) : S16384x416.Idx → Elt F .f32 :=
  shapeCast S16384x416 (gathered (idxOf x : S425984.Idx → Elt F .i32) (tblOf E)) shapeCasts_S425984x16_S16384x416

/-- The kernel's function of its arguments. -/
def result (a0 : S16384x13.Idx → Elt F .f32) (x : S16384x26.Idx → BitVec 32) (E : S26x100000x16.Idx → Elt F .f32) (w1 : S429x128.Idx → Elt F .f32)
    (b1 : S128.Idx → Elt F .f32) (w2 : S128x64.Idx → Elt F .f32) (b2 : S64.Idx → Elt F .f32) (w3 : S64x1.Idx → Elt F .f32) (b3 : S1.Idx → Elt F .f32) :
    S16384x1.Idx → Elt F .f32 :=
  mlpOut a0 (emb x E) (extractStridedSlice S13x128 ![0, 0] w1 slices_S429x128_S13x128_0_0) (extractStridedSlice S416x128 ![13, 0] w1 slices_S429x128_S416x128_13_0)
    (broadcastInDim S1x128 ![1] bcast_S128_S1x128_1 b1) w2 (broadcastInDim S1x64 ![1] bcast_S64_S1x64_1 b2) w3 (broadcastInDim S1x1 ![1] bcast_S1_S1x1_1 b3)

/-- The gather's result: the rows that the batch asks for, of the flattened table. -/
theorem V4_gathered (d : Dev nD) : (V4 m d (Proc.devRef .tc main_v10) : S425984x16.Idx → Elt F .f32)
    = gathered (idxOf (V0 m d (Proc.devRef .tc main_arg1)) : S425984.Idx → Elt F .i32) (tblOf (V0 m d (Proc.devRef .tc main_arg2))) := by
  unfold V4
  rw [Function.update_self]
  unfold gath
  rw [← Ix_eq, ← Tb_eq]

/-- The result's array at the end: the kernel's function of the arguments at the launch. -/
theorem V6_result (d : Dev nD) : (V6 m d (Proc.devRef .tc main_v17) : S16384x1.Idx → Elt F .f32)
    = result (V0 m d (Proc.devRef .tc main_arg0)) (V0 m d (Proc.devRef .tc main_arg1)) (V0 m d (Proc.devRef .tc main_arg2))
        (V0 m d (Proc.devRef .tc main_arg3)) (V0 m d (Proc.devRef .tc main_arg4)) (V0 m d (Proc.devRef .tc main_arg5))
        (V0 m d (Proc.devRef .tc main_arg6)) (V0 m d (Proc.devRef .tc main_arg7)) (V0 m d (Proc.devRef .tc main_arg8)) := by
  have h17 : (V6 m d (Proc.devRef .tc main_v17) : S16384x1.Idx → Elt F .f32) = out1 (V5 m) d :=
    (afterRegion_arr (dat1 1 (V5 m) d) (V5 m d) launch2.win.arr_inj 9).trans (final1_out 1 (V5 m) d)
  have k : ∀ {r : Ref sig .tc}, r ∉ written → V5 m d (Proc.devRef .tc r) = V0 m d (Proc.devRef .tc r) := fun {r} h => by
    have h' := h
    simp only [written, List.mem_cons, List.not_mem_nil, or_false, not_or] at h
    exact (lineC_keeps _ (by simp; tauto)).trans (V4_untouched m d h')
  have e11 : (V5 m d (Proc.devRef .tc main_v11) : S16384x416.Idx → Elt F .f32) = emb (V0 m d (Proc.devRef .tc main_arg1)) (V0 m d (Proc.devRef .tc main_arg2)) := by
    unfold emb
    rw [← V4_gathered]
    unfold V5 lineC
    after_results_simp
    try rfl
  have e12 : (V5 m d (Proc.devRef .tc main_v12) : S13x128.Idx → Elt F .f32) = extractStridedSlice S13x128 ![0, 0] (V0 m d (Proc.devRef .tc main_arg3) : S429x128.Idx → Elt F .f32) slices_S429x128_S13x128_0_0 := by
    rw [← V4_untouched m d (r := main_arg3) (by decide)]
    unfold V5 lineC
    after_results_simp
    try rfl
  have e13 : (V5 m d (Proc.devRef .tc main_v13) : S416x128.Idx → Elt F .f32) = extractStridedSlice S416x128 ![13, 0] (V0 m d (Proc.devRef .tc main_arg3) : S429x128.Idx → Elt F .f32) slices_S429x128_S416x128_13_0 := by
    rw [← V4_untouched m d (r := main_arg3) (by decide)]
    unfold V5 lineC
    after_results_simp
    try rfl
  have e14 : (V5 m d (Proc.devRef .tc main_v14) : S1x128.Idx → Elt F .f32) = broadcastInDim S1x128 ![1] bcast_S128_S1x128_1 (V0 m d (Proc.devRef .tc main_arg4) : S128.Idx → Elt F .f32) := by
    rw [← V4_untouched m d (r := main_arg4) (by decide)]
    unfold V5 lineC
    after_results_simp
    try rfl
  have e15 : (V5 m d (Proc.devRef .tc main_v15) : S1x64.Idx → Elt F .f32) = broadcastInDim S1x64 ![1] bcast_S64_S1x64_1 (V0 m d (Proc.devRef .tc main_arg6) : S64.Idx → Elt F .f32) := by
    rw [← V4_untouched m d (r := main_arg6) (by decide)]
    unfold V5 lineC
    after_results_simp
    try rfl
  have e16 : (V5 m d (Proc.devRef .tc main_v16) : S1x1.Idx → Elt F .f32) = broadcastInDim S1x1 ![1] bcast_S1_S1x1_1 (V0 m d (Proc.devRef .tc main_arg8) : S1.Idx → Elt F .f32) := by
    rw [← V4_untouched m d (r := main_arg8) (by decide)]
    unfold V5 lineC
    after_results_simp
    try rfl
  rw [h17]
  unfold out1 result
  rw [e11, e12, e13, e14, e15, e16, k (r := main_arg0) (by decide), k (r := main_arg5) (by decide), k (r := main_arg7) (by decide)]

end Cert.KernelIdeal.Proof

end
-- ==== Proof.Exact.Run.lean ====
/-
  The run of the whole program: what the launch hands each thread, @main on the TensorCore, and the theorem. From any
  memory whose indices are below 100000 every run stops with every buffer of the TensorCore at its last contents and no
  semaphore raised.
-/
module

public import proofs.«01_k».proof.Proof.Exact.Steps

@[expose] public section

set_option maxRecDepth 16384

noncomputable section

namespace Cert.KernelIdeal.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.TcCoe
open Idealize.ShloMosaic.StableHlo (after held)

variable {F : FTy → Type} [FloatOps F]

local notation "𝕄" => MT nD τ sig (HIx 1) (Elt F) ℕ UU ℕ

variable (m : (ℓ : Loc nD τ sig) → Buf (Elt F) ℓ)

/-! ## What the launch hands out -/

/-- The indices of the batch name rows of their tables. -/
def PreOK : Prop := ∀ (d : Dev nD) (i : S16384x26.Idx), ((V0 m d (Proc.devRef .tc main_arg1) : S16384x26.Idx → BitVec 32) i).toNat < 100000

/-- What the TensorCore hands the SparseCores and gets back. -/
abbrev payAt : (K (F := F)).Pay (nD := nD) (Val := Elt F) (Name := ℕ) (U := UU) := pay (Ix m) (Tb m) (Old m)

/-- The launch's ghost state: the handshake's rounds and the staging cells' rounds. -/
def u₀ : UU := (initOf (K (F := F)).hsCells (K (F := F)).hsToks,
  (initOf (cells (pin (pcfgs (F := F)) adm) cellOf_inj) (launchToks (pin (pcfgs (F := F)) adm) cellOf_inj), 1))

/-- The staging cells' rounds of one device, of both pipelines. -/
abbrev G (d : Dev nD) : sProp 𝕄 :=
  iprop((bigSep Finset.univ fun p : Fin 2 => cellsGhost (pin (pcfgs (F := F)) adm) EP p d)
    ∗ (bigSep Finset.univ fun p : Fin 2 => (toksInit (pin (pcfgs (F := F)) adm) EP p d : sProp 𝕄)))

/-- The launch element gives every part its start. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (payAt m).x q thr) := by
  unfold u₀
  iintro Hu
  ihave H := (own_split (F := F) (initOf (K (F := F)).hsCells (K (F := F)).hsToks)
    (initOf (cells (pin (pcfgs (F := F)) adm) cellOf_inj) (launchToks (pin (pcfgs (F := F)) adm) cellOf_inj))) $$ Hu
  icases H with ⟨HH, HP⟩
  imod (fund_ghost (pin (pcfgs (F := F)) adm) EP cellOf_inj) $$ HP with ⟨Hg, Ht⟩
  imodintro
  isplitl [HH]; · iexact HH
  isplitl [Hg Ht]
  · rw [bigSep_sep']
    isplitl [Hg]; · iexact Hg
    iexact Ht
  have hx : (bigSep Finset.univ fun thr : Thread nD τ => bigSep Finset.univ fun q : Fin 1 => (payAt m).x q thr) = (iprop(emp) : sProp 𝕄) :=
    (bigSep_congr fun _ _ => bigSep_univ_of_subsingleton (0 : Fin 1)).trans (bigSep_emp_const _)
  rw [hx]
  iempintro

/-! ## The gather's three arrays -/

/-- The list, the table and the result's array. -/
def gatherRefs : Finset (DevRef τ sig) := {Proc.devRef .tc main_v6, Proc.devRef .tc main_v9, Proc.devRef .tc main_v10}

/-- The gather's arrays are buffers the TensorCore holds. -/
theorem gatherRefs_sub : gatherRefs ⊆ ucRefs τ sig := by
  intro b hb
  simp only [gatherRefs, Finset.mem_insert, Finset.mem_singleton] at hb
  refine Finset.mem_filter.mpr ?_
  rcases hb with rfl | rfl | rfl
  · exact ⟨StableHlo.devRef_mem_tcRefs _, by decide⟩
  · exact ⟨StableHlo.devRef_mem_tcRefs _, by decide⟩
  · exact ⟨StableHlo.devRef_mem_tcRefs _, by decide⟩

/-- The three arrays held at some contents. -/
theorem held_gather (d : Dev nD) (X : Valuation τ sig (Elt F)) :
    (held (d.tc : Thread nD τ) gatherRefs X : sProp 𝕄)
      = iprop((iLoc d ↦{fullShare} X (Proc.devRef .tc main_v6)) ∗ (bLoc d ↦{fullShare} X (Proc.devRef .tc main_v9))
          ∗ (oLoc d ↦{fullShare} X (Proc.devRef .tc main_v10))) := by
  unfold held gatherRefs
  rw [SparseCore.bigSep_insert' (by decide), SparseCore.bigSep_insert' (by decide), bigSep_singleton]

/-- The gather takes the TensorCore's buffers from `V3` to `V4`. -/
theorem gather_wp (κ : GSem nD τ sig → ℕ) (d : Dev nD) (k : PUnit → Prog (TpuEff nD τ sig (Elt F) (SparseCore.Sig (ΛP (F := F)) 1) .tc) PUnit)
    (Q : PUnit → sProp 𝕄) :
    iprop((iprop(held (d.tc : Thread nD τ) (ucRefs τ sig) (V4 m d) ∗ (K (F := F)).tcSt EH d 1)
            -∗ wp frame (wpE ((K (F := F)).defs D) 𝒱 (d.tc : Thread nD τ) none) Set.univ (k ⟨⟩) Q)
        ∗ (K (F := F)).ctx EH (payAt m) κ ∗ held (d.tc : Thread nD τ) (ucRefs τ sig) (V3 m d) ∗ (K (F := F)).tcSt EH d 0)
      ⊢ wp frame (wpE ((K (F := F)).defs D) 𝒱 (d.tc : Thread nD τ) none) Set.univ ((K (F := F)).run d 0 >>= k) Q := by
  have hrest : (held (d.tc : Thread nD τ) (ucRefs τ sig \ gatherRefs) (V4 m d) : sProp 𝕄)
      = held (d.tc : Thread nD τ) (ucRefs τ sig \ gatherRefs) (V3 m d) := StableHlo.held_congr (d.tc : Thread nD τ) fun b hb =>
    Function.update_of_ne (fun e => (Finset.mem_sdiff.mp hb).2 (by rw [e]; simp [gatherRefs])) _ _
  rw [wp_bind, StableHlo.held_sub_split (d.tc : Thread nD τ) gatherRefs_sub (V3 m d),
    StableHlo.held_sub_split (d.tc : Thread nD τ) gatherRefs_sub (V4 m d), hrest, held_gather, held_gather]
  rw [V4_keeps m d (r := main_v6) (by decide), V4_keeps m d (r := main_v9) (by decide),
    show V4 m d (Proc.devRef .tc main_v10) = gath (Ix m) (Tb m) d from Function.update_self _ _ _]
  iintro ⟨Hk, Hctx, ⟨Ha, Hz⟩, Hst⟩
  iapply ((K (F := F)).wp_run (D (F := F)) 𝒱 (EH := EH) (P := payAt m) κ d 0)
  isplitl [Hctx]; · iexact Hctx
  isplitl [Hst]; · iexact Hst
  isplitl [Ha]
  · iapply (Entails.of_eq (st_eq (Ix m) (Tb m) (Old m) d).symm)
    iexact Ha
  iintro ⟨Hst, Hdn⟩
  ihave Ha := (Entails.of_eq (dn_eq (Ix m) (Tb m) (Old m) d)) $$ Hdn
  iapply Hk
  isplitl [Ha Hz]
  · isplitl [Ha]; · iexact Ha
    iexact Hz
  iexact Hst

/-! ## @main -/

/-- A line of host operations takes the TensorCore's buffers from `X` to `after ops X`. -/
theorem line_wp (d : Dev nD) (ops : List (HloOp τ sig (Elt F))) (hs : ∀ op ∈ ops, op.bufs ⊆ ucRefs τ sig) (hf : ∀ op ∈ ops, op.fresh = ∅)
    (X : Valuation τ sig (Elt F)) (k : PUnit → Prog (TpuEff nD τ sig (Elt F) (SparseCore.Sig (ΛP (F := F)) 1) .tc) PUnit) (Q : PUnit → sProp 𝕄) :
    iprop((iprop(boundary (d.tc : Thread nD τ) ∗ held (d.tc : Thread nD τ) (ucRefs τ sig) (after ops X))
            -∗ wp frame (wpE ((K (F := F)).defs D) 𝒱 (d.tc : Thread nD τ) none) Set.univ (k ⟨⟩) Q)
        ∗ boundary (d.tc : Thread nD τ) ∗ held (d.tc : Thread nD τ) (ucRefs τ sig) X)
      ⊢ wp frame (wpE ((K (F := F)).defs D) 𝒱 (d.tc : Thread nD τ) none) Set.univ (StableHlo.seq ops >>= k) Q := by
  have h := StableHlo.wp_seq (defs := (K (F := F)).defs (D (F := F))) 𝒱 none Set.univ d (ucRefs τ sig) k (K := Q) ops hs hf X
  iintro ⟨Hk, Hb, Hh⟩
  iapply h $$ [Hb Hh]
  · isplitl [Hb] <;> iassumption
  iexact Hk

/-- What a device's TensorCore holds at the end: its buffers at their last contents. -/
abbrev FIN (d : Dev nD) : sProp 𝕄 := held (d.tc : Thread nD τ) (ucRefs τ sig) (V6 m d)

variable (ρ : Dev nD → PrngReg)

/-- @main on a device's TensorCore: line, pipeline, line, gather, line, pipeline. -/
theorem hmain (κ : GSem nD τ sig → ℕ) (d : Dev nD) :
    iprop((K (F := F)).ctx EH (payAt m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hu, Hts, -⟩, Hg, Ht⟩
  ihave #Hlv := ((K (F := F)).ctx_levAts (EH := EH) (P := payAt m) κ) $$ Hctx
  ihave Hg2 := (Entails.of_eq (bigSep_univ_two (fun p : Fin 2 => (cellsGhost (pin (pcfgs (F := F)) adm) EP p d : sProp 𝕄)))) $$ Hg
  icases Hg2 with ⟨Hg0, Hg1⟩
  ihave Ht2 := (Entails.of_eq (bigSep_univ_two (fun p : Fin 2 => (toksInit (pin (pcfgs (F := F)) adm) EP p d : sProp 𝕄)))) $$ Ht
  icases Ht2 with ⟨Ht0, Ht1⟩
  ihave Hh := (Entails.of_eq (show (unscopedBufs d (fun b => m ((SparseCore.T d).loc b)) : sProp 𝕄)
    = held (d.tc : Thread nD τ) (ucRefs τ sig) (V0 m d) from unscopedBufs_held d (V0 m d))) $$ Hu
  iapply (line_wp d lineA lineA_sub lineA_fresh (V0 m d))
  isplitr [Hb Hh]; rotate_left
  · isplitl [Hb] <;> iassumption
  iintro ⟨Hb, Hh⟩
  iapply ((step0 (V1 m) (V5 m)).wp d)
  isplitr [Hb Hh Hst Hg0 Ht0]; rotate_left
  · isplitl [Hb]; · iexact Hb
    isplitl [Hh]; · iexact Hh
    isplitl [Hst]; · iexact Hst
    isplitr; · iexact Hlv
    isplitl [Hg0]; · iexact Hg0
    iexact Ht0
  iintro ⟨Hb, Hh, Hst⟩
  iapply (line_wp d lineB lineB_sub lineB_fresh (V2 m d))
  isplitr [Hb Hh]; rotate_left
  · isplitl [Hb]; · iexact Hb
    iexact Hh
  iintro ⟨Hb, Hh⟩
  iapply (gather_wp m κ d)
  isplitr [Hh Hst]; rotate_left
  · isplitr; · iexact Hctx
    isplitl [Hh]; · iexact Hh
    iexact Hst
  iintro ⟨Hh, Hst⟩
  iapply (line_wp d lineC lineC_sub lineC_fresh (V4 m d))
  isplitr [Hb Hh]; rotate_left
  · isplitl [Hb] <;> iassumption
  iintro ⟨Hb, Hh⟩
  iapply ((step1 (V1 m) (V5 m)).wp d)
  isplitr [Hb Hh Hst Hg1 Ht1]; rotate_left
  · isplitl [Hb]; · iexact Hb
    isplitl [Hh]; · iexact Hh
    isplitl [Hst]; · iexact Hst
    isplitr; · iexact Hlv
    isplitl [Hg1]; · iexact Hg1
    iexact Ht1
  iintro ⟨Hb, Hh, Hst⟩
  rw [wp_pure]
  imodintro
  isplitl [Hst]; · iexact Hst
  isplitl [Hh]; · iexact Hh
  isplitl [Hb] <;> iassumption

/-! ## The run -/

/-- Every buffer of the TensorCore holds its last contents. -/
def fq (d : Dev nD) (s' : Phys nD τ sig (Elt F)) : Prop := ∀ b ∈ ucRefs τ sig, s'.mem.mem (d, b) = V6 m d b

/-- What is held at the end pins the memory. -/
theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (st := s') (c := d) (qs := fun _ => fullShare) (F := V6 m d) (ucRefs τ sig)) $$ [HSI H]
  · isplitl [HSI] <;> iassumption
  ipureintro; exact h

/-- Every buffer of every TensorCore at its last contents, and no semaphore raised. -/
def Ends : PUnit × MemSt nD τ sig (Elt F) → Prop := fun r =>
  (∀ (d : Dev nD), ∀ b ∈ ucRefs τ sig, r.2.mem (d, b) = V6 m d b) ∧ r.2.sem = fun _ => 0

/-- The run of the program, from indices in range. -/
theorem run_main [∀ e, Nonempty (Elt F e)] (hpre : PreOK m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := payAt m) (A := ∅) facts v₀
    (fun q hq => match q with | 0 => nomatch hq)
    (fun q _ => match q with | 0 => tileObl (Ix m) (Tb m) (Old m) (fun d x => by rw [Ix_eq]; exact idxOf_lt _ (hpre d) x))
    (fun q _ => match q with | 0 => SparseCore.Cfg.VecSplit.of_plain (vecSplit (Ix m) (Tb m) (Old m)))
    m ρ main (fun d => G d) (FIN m) (u₀ (F := F)) (sep_elim_left.trans (hu₀ m)) (hmain m ρ) (fq m) (hfin m) (Ends m) (fun _ h hz => ⟨h, hz⟩)

/-- The run, read at the arguments and the result. -/
theorem run_values [∀ e, Nonempty (Elt F e)] (hpre : PreOK m) :
    θ_run (Cert.KernelIdeal.defs (F := F)) (Cert.KernelIdeal.threads (F := F)) ⟨m, fun _ => 0, ρ⟩ fun r =>
      (∀ (d : Dev nD) (b : Ref sig .tc), b ∉ written → b.isScoped = false → r.2.mem (d, Proc.devRef .tc b) = m (d, Proc.devRef .tc b))
      ∧ (∀ d : Dev nD, (r.2.mem (d, Proc.devRef .tc main_v17) : S16384x1.Idx → Elt F .f32)
          = result (m (d, Proc.devRef .tc main_arg0)) (m (d, Proc.devRef .tc main_arg1)) (m (d, Proc.devRef .tc main_arg2))
              (m (d, Proc.devRef .tc main_arg3)) (m (d, Proc.devRef .tc main_arg4)) (m (d, Proc.devRef .tc main_arg5))
              (m (d, Proc.devRef .tc main_arg6)) (m (d, Proc.devRef .tc main_arg7)) (m (d, Proc.devRef .tc main_arg8)))
      ∧ r.2.sem = fun _ => 0 := by
  have huc : ∀ b : Ref sig .tc, b.isScoped = false → (Proc.devRef .tc b : DevRef τ sig) ∈ ucRefs τ sig := fun b hb =>
    Finset.mem_filter.mpr ⟨StableHlo.devRef_mem_tcRefs b, by rw [show (Proc.devRef .tc b : DevRef τ sig).isScoped = b.isScoped from rfl, hb]; decide⟩
  refine (θ_run (Cert.KernelIdeal.defs (F := F)) _ _).mono (fun r h => ⟨fun d b hb hs => ?_, fun d => ?_, h.2⟩) (run_main m ρ hpre)
  · exact (h.1 d _ (huc b hs)).trans (V6_untouched m d hb)
  · exact (h.1 d _ (huc main_v17 rfl)).trans (V6_result m d)

end Cert.KernelIdeal.Proof

end
-- ==== Proof.Vocab.lean ====
/-
  The precondition read back: it computes, over the whole batch, the conjunction of 0 <= x and x < 100000 as signed words,
  and says that the conjunction is true. So every index, read as a natural number, is below 100000.
-/
module

public import proofs.«01_k».proof.Proof.Gen.Pre_in_vocab
public import Idealize.ShloMosaic.Lib.ReduceAll

@[expose] public section

noncomputable section

namespace Cert.Vocab

open Idealize.ShloMosaic Cert.Pre_in_vocab

/-- A word that is not negative and is less than 100000, both as signed words, is below 100000 as a natural number. -/
theorem word_below (w : BitVec 32) (h : IntOp.andi (IntOp.cmpi .sge w 0#32) (IntOp.cmpi .slt w 100000#32) = 1#1) : w.toNat < 100000 := by
  obtain ⟨h0, h1⟩ := IntOp.andi_eq_one.1 h
  have bit : ∀ b : Bool, BitVec.ofBool b = 1#1 → b = true := by decide
  have g0 := bit _ h0
  have g1 := bit _ h1
  simp only [BitVec.sle_eq_decide, BitVec.slt_eq_decide, decide_eq_true_eq, BitVec.toInt_eq_toNat_cond, BitVec.toNat_ofNat,
    Nat.reducePow, Nat.reduceMod] at g0 g1
  omega

/-- A scalar's shape has one index. -/
instance : Subsingleton S_.Idx := ⟨fun _ _ => funext fun a => a.elim0⟩

/-- The precondition gives the range of every index. -/
theorem below {F : FTy → Type} [FloatOps F] (a0 : FVec F S16384x13 .f32) (a1 : IVec S16384x26 32) (a2 : FVec F S26x100000x16 .f32)
    (a3 : FVec F S429x128 .f32) (a4 : FVec F S128 .f32) (a5 : FVec F S128x64 .f32) (a6 : FVec F S64 .f32) (a7 : FVec F S64x1 .f32)
    (a8 : FVec F S1 .f32) (h : fn a0 a1 a2 a3 a4 a5 a6 a7 a8 = fun _ => 1#1) (i : S16384x26.Idx) : (a1 i).toNat < 100000 := by
  refine word_below _ ?_
  have e := congrFun h (fun a => a.elim0)
  exact Host.reduce_andi_all _ _ _ _ _ e i

end Cert.Vocab

end
-- ==== Proof.Frames.lean ====
/-
  The frames: the kernel at either instance, and the reference, run to the end with their arguments unchanged and every
  semaphore at zero.
-/
module

public import proofs.«01_k».proof.Proof.Word.Run
public import proofs.«01_k».proof.Proof.Exact.Run
public import proofs.«01_k».proof.Proof.Vocab
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The precondition gives what the run of the kernel asks of the memory. -/
theorem word_ok (m : (ℓ : Loc Cert.Kernel.nD Cert.Kernel.τ Cert.Kernel.sig) → Buf (Elt Bits) ℓ) (h : Cert.Pre_Kernel m) :
    Cert.Kernel.Proof.PreOK (F := Bits) m := fun d i => Cert.Vocab.below _ _ _ _ _ _ _ _ _ (h d) i

/-- The same over the reals. -/
theorem exact_ok (m : (ℓ : Loc Cert.KernelIdeal.nD Cert.KernelIdeal.τ Cert.KernelIdeal.sig) → Buf (Elt Ideal) ℓ) (h : Cert.Pre_KernelIdeal m) :
    Cert.KernelIdeal.Proof.PreOK (F := Ideal) m := fun d i => Cert.Vocab.below _ _ _ _ _ _ _ _ _ (h d) i

/-- The kernel on machine words. -/
theorem frame_word : Cert.quiescent_Kernel := fun m ρ hpre =>
  (θ_run Cert.Kernel.defs _ _).mono (fun _ h => ⟨fun c => ⟨h.1 c _ (by decide) rfl, h.1 c _ (by decide) rfl, h.1 c _ (by decide) rfl,
    h.1 c _ (by decide) rfl, h.1 c _ (by decide) rfl, h.1 c _ (by decide) rfl, h.1 c _ (by decide) rfl, h.1 c _ (by decide) rfl,
    h.1 c _ (by decide) rfl⟩, h.2.2⟩) (Cert.Kernel.Proof.run_values (F := Bits) m ρ (word_ok m hpre))

/-- The kernel over the reals. -/
theorem frame_exact : Cert.quiescent_KernelIdeal := fun m ρ hpre =>
  (θ_run Cert.KernelIdeal.defs _ _).mono (fun _ h => ⟨fun c => ⟨h.1 c _ (by decide) rfl, h.1 c _ (by decide) rfl, h.1 c _ (by decide) rfl,
    h.1 c _ (by decide) rfl, h.1 c _ (by decide) rfl, h.1 c _ (by decide) rfl, h.1 c _ (by decide) rfl, h.1 c _ (by decide) rfl,
    h.1 c _ (by decide) rfl⟩, h.2.2⟩) (Cert.KernelIdeal.Proof.run_values (F := Ideal) m ρ (exact_ok m hpre))

/-- The reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Value.Logit.lean ====
/-
  The mathematics of one batch row: the numeric features followed by the embeddings, three layers, one number. Over the
  extended reals, where a sum may be split into two.
-/
module

public import Idealize.ShloMosaic.PureOps.Ideal.Laws
public import Idealize.ShloMosaic.Lib.Pointwise.Index
public import Mathlib.Algebra.BigOperators.Fin

@[expose] public section

noncomputable section

namespace Cert.Value

open Idealize.ShloMosaic
open scoped BigOperators

/-- The features of a row: 13 numbers, then 416. -/
def feat (n : Fin 13 → EReal) (e : Fin 416 → EReal) : Fin 429 → EReal := fun k =>
  if h : k.val < 13 then n ⟨k.val, h⟩ else e ⟨k.val - 13, by omega⟩

/-- A layer before its activation: the products summed, and the bias. -/
def dense {K N : ℕ} (v : Fin K → EReal) (W : (⟨2, ![K, N]⟩ : Shape).Idx → EReal) (b : (⟨1, ![N]⟩ : Shape).Idx → EReal) : Fin N → EReal :=
  fun c => (∑ k : Fin K, v k * W (ix2 k c)) + b (ix1 c)

/-- What is negative becomes zero. -/
def relu {N : ℕ} (v : Fin N → EReal) : Fin N → EReal := fun c => max (v c) 0

/-- The perceptron's number for a row of features. -/
def logit (v : Fin 429 → EReal) (w1 : (⟨2, ![429, 128]⟩ : Shape).Idx → EReal) (b1 : (⟨1, ![128]⟩ : Shape).Idx → EReal)
    (w2 : (⟨2, ![128, 64]⟩ : Shape).Idx → EReal) (b2 : (⟨1, ![64]⟩ : Shape).Idx → EReal)
    (w3 : (⟨2, ![64, 1]⟩ : Shape).Idx → EReal) (b3 : (⟨1, ![1]⟩ : Shape).Idx → EReal) : EReal :=
  dense (relu (dense (relu (dense v w1 b1)) w2 b2)) w3 b3 0

/-- The first layer's sum over all the features is the embeddings' part plus the numeric part. -/
theorem dense_feat (n : Fin 13 → EReal) (e : Fin 416 → EReal) (w1 : (⟨2, ![429, 128]⟩ : Shape).Idx → EReal)
    (b1 : (⟨1, ![128]⟩ : Shape).Idx → EReal) (c : Fin 128) :
    dense (feat n e) w1 b1 c
      = ((∑ k : Fin 416, e k * w1 (ix2 (⟨13 + k.val, by omega⟩ : Fin 429) c)) + ∑ k : Fin 13, n k * w1 (ix2 (⟨k.val, by omega⟩ : Fin 429) c))
        + b1 (ix1 c) := by
  unfold dense
  refine congrArg (· + b1 (ix1 c)) ?_
  refine (Fin.sum_univ_add (a := 13) (b := 416) (fun k : Fin (13 + 416) => feat n e k * w1 (ix2 k c))).trans ?_
  rw [add_comm]
  refine congrArg₂ (· + ·) (Finset.sum_congr rfl fun k _ => ?_) (Finset.sum_congr rfl fun k _ => ?_)
  · have h : ¬ (13 + k.val < 13) := by omega
    have : feat n e (Fin.natAdd 13 k) = e k := by
      unfold feat
      rw [dif_neg (by simp)]
      exact congrArg e (Fin.ext (by simp))
    rw [this]; rfl
  · have : feat n e (Fin.castAdd 416 k) = n k := by
      unfold feat
      rw [dif_pos (by simp)]
      rfl
    rw [this]; rfl

end Cert.Value

end
-- ==== Proof.Value.Kernel.lean ====
/-
  The kernel's result over the reals, index by index: the perceptron's number for the row's features, the numeric ones
  followed by the embeddings gathered.
-/
module

public import proofs.«01_k».proof.Proof.Exact.Run
public import proofs.«01_k».proof.Proof.Value.Logit
public import Idealize.ShloMosaic.Lib.MatmulPlain

@[expose] public section

set_option maxRecDepth 16384

noncomputable section

namespace Cert.KernelIdeal.Proof

open Cert.KernelIdeal Cert.KernelIdeal.Gen Cert.Value
open Idealize.ShloMosaic
open scoped BigOperators

/-! ## The embeddings -/

/-- Place q of batch row b is component q mod 16 of field q / 16's embedding, the row that the index names. -/
theorem emb_apply (E : FVec Ideal S26x100000x16 .f32) (x : IVec S16384x26 32) (hx : ∀ i, (x i).toNat < 100000) (b : Fin 16384)
    (q : Fin 416) : emb (F := Ideal) x E (ix2 b q)
      = E (ix3 (⟨q.val / 16, by omega⟩ : Fin 26) ⟨(x (ix2 b (⟨q.val / 16, by omega⟩ : Fin 26))).toNat, hx _⟩ (⟨q.val % 16, by omega⟩ : Fin 16)) := by
  have hb := b.isLt
  have hq := q.isLt
  unfold emb
  refine (shapeCast_apply _ _ (ix2 b q) (ix2 (⟨b.val * 26 + q.val / 16, by omega⟩ : Fin 425984) (⟨q.val % 16, by omega⟩ : Fin 16)) ?_).trans ?_
  · rw [Shape.rowMajor_val_two, Shape.rowMajor_val_two]
    show (b.val * 26 + q.val / 16) * 16 + q.val % 16 = b.val * 416 + q.val
    omega
  show tblOf (F := Ideal) E (ix2 (rowOf (idxOf x (ix1 (⟨b.val * 26 + q.val / 16, by omega⟩ : Fin 425984)))) (⟨q.val % 16, by omega⟩ : Fin 16)) = _
  have h := hx (ix2 b (⟨q.val / 16, by omega⟩ : Fin 26))
  refine tblOf_apply (F := Ideal) E _ _ _ _ ?_
  rw [idxOf_apply x b (⟨q.val / 16, by omega⟩ : Fin 26) _ rfl]
  show (x (ix2 b (⟨q.val / 16, by omega⟩ : Fin 26)) + BitVec.ofNat 32 (q.val / 16) * 100000#32).toNat % 2600000 = _
  have e := idx_toNat _ h (⟨q.val / 16, by omega⟩ : Fin 26)
  dsimp only at e
  rw [e]
  exact Nat.mod_eq_of_lt (by omega)

/-! ## The perceptron's block -/

/-- A product with a zero accumulator, at an index. -/
theorem product_apply {M K N : ℕ} (v : FVec Ideal ⟨2, ![M, K]⟩ .f32) (w : FVec Ideal ⟨2, ![K, N]⟩ .f32) (acc : FVec Ideal ⟨2, ![M, N]⟩ .f32)
    (r : Fin M) (c : Fin N) (ha : acc (ix2 r c) = 0) :
    matmul (DotDims.plain M K N) none v w acc (ix2 r c) = ∑ k : Fin K, v (ix2 r k) * w (ix2 k c) := by
  refine (Ideal.matmul_plain_apply none v w acc r c).trans ?_
  refine (congrArg (· + _) ha).trans ?_
  exact zero_add _

/-- A product with a zero accumulator, plus a bias repeated down the rows, is a layer of each row. -/
theorem dense_apply {M K N : ℕ} (v : FVec Ideal ⟨2, ![M, K]⟩ .f32) (w : FVec Ideal ⟨2, ![K, N]⟩ .f32) (acc bb : FVec Ideal ⟨2, ![M, N]⟩ .f32)
    (b : FVec Ideal ⟨1, ![N]⟩ .f32) (r : Fin M) (c : Fin N) (u : Fin K → EReal) (ha : acc (ix2 r c) = 0) (hu : ∀ k, v (ix2 r k) = u k)
    (hb : bb (ix2 r c) = b (ix1 c)) :
    addf (matmul (DotDims.plain M K N) none v w acc) bb (ix2 r c) = dense u w b c := by
  show matmul (DotDims.plain M K N) none v w acc (ix2 r c) + bb (ix2 r c) = _
  rw [product_apply v w acc r c ha, hb]
  unfold dense
  exact congrArg (· + b (ix1 c)) (Finset.sum_congr rfl fun k _ => congrArg (· * w (ix2 k c)) (hu k))

/-- The greater of an entry and the constant zero. -/
theorem relu_apply {M N : ℕ} (v z : FVec Ideal ⟨2, ![M, N]⟩ .f32) (r : Fin M) (c : Fin N) (u : Fin N → EReal) (hu : v (ix2 r c) = u c)
    (hz : z (ix2 r c) = 0) : maximumf v z (ix2 r c) = relu u c := by
  show max (v (ix2 r c)) (z (ix2 r c)) = max (u c) 0
  rw [hu, hz]

/-- A row vector, first a vector, repeated down a block, at an index. -/
theorem bias_apply {M N : ℕ} (b : FVec Ideal ⟨1, ![N]⟩ .f32) (h₁ : (⟨1, ![N]⟩ : Shape).BroadcastsInDim ⟨2, ![1, N]⟩ ![1])
    (h₂ : (⟨2, ![1, N]⟩ : Shape).Broadcasts ⟨2, ![M, N]⟩) (r : Fin M) (c : Fin N) :
    broadcastTo ⟨2, ![M, N]⟩ (broadcastInDim ⟨2, ![1, N]⟩ ![1] h₁ b) h₂ (ix2 r c) = b (ix1 c) := by
  refine (broadcastTo_apply _ _ (ix2 r c) (ix2 (0 : Fin 1) c) ?_).trans (broadcastInDim_apply _ _ _ _ (ix1 c) ?_)
  · intro a
    match a with
    | ⟨0, _⟩ => rfl
    | ⟨1, _⟩ =>
      show c.val = if N = 1 then 0 else c.val
      have := c.isLt
      split <;> omega
  · intro a
    match a with
    | ⟨0, _⟩ =>
      show c.val = if N = 1 then 0 else c.val
      have := c.isLt
      split <;> omega

/-- A row of a block: the first layer's two products added, then the two other layers. -/
theorem block_apply (xe : FVec Ideal S2048x416 .f32) (w1e : FVec Ideal S416x128 .f32) (xn : FVec Ideal S2048x13 .f32)
    (w1n : FVec Ideal S13x128 .f32) (b1 : FVec Ideal S128 .f32) (w2 : FVec Ideal S128x64 .f32) (b2 : FVec Ideal S64 .f32)
    (w3 : FVec Ideal S64x1 .f32) (b3 : FVec Ideal S1 .f32) (r : Fin 2048) :
    k2_pay1 (F := Ideal) xe w1e xn w1n (broadcastInDim S1x128 ![1] bcast_S128_S1x128_1 b1) w2 (broadcastInDim S1x64 ![1] bcast_S64_S1x64_1 b2)
      w3 (broadcastInDim S1x1 ![1] bcast_S1_S1x1_1 b3) (ix2 r (0 : Fin 1))
      = dense (relu (dense (relu (fun c : Fin 128 => ((∑ k : Fin 416, xe (ix2 r k) * w1e (ix2 k c)) + ∑ k : Fin 13, xn (ix2 r k) * w1n (ix2 k c))
          + b1 (ix1 c))) w2 b2)) w3 b3 0 := by
  unfold k2_pay1
  simp only [shapeCast_self]
  refine dense_apply (M := 2048) (K := 64) (N := 1) _ w3 _ _ b3 r 0 _ Ideal.ofBits_zero_f32 (fun k => ?_) (bias_apply b3 _ _ r 0)
  refine relu_apply _ _ r k _ ?_ Ideal.ofBits_zero_f32
  refine dense_apply (M := 2048) (K := 128) (N := 64) _ w2 _ _ b2 r k _ Ideal.ofBits_zero_f32 (fun k' => ?_) (bias_apply b2 _ _ r k)
  refine relu_apply _ _ r k' _ ?_ Ideal.ofBits_zero_f32
  exact congrArg₂ (· + ·) (congrArg₂ (· + ·) (product_apply (M := 2048) (K := 416) (N := 128) xe w1e _ r k' Ideal.ofBits_zero_f32)
    (product_apply (M := 2048) (K := 13) (N := 128) xn w1n _ r k' Ideal.ofBits_zero_f32)) (bias_apply b1 _ _ r k')

/-! ## The result -/

/-- Row b is row b mod 2048 of block b / 2048. -/
theorem rowBlk_apply {α : Type} (m : ℕ) (X : (⟨2, ![16384, m]⟩ : Shape).Idx → α) (b : Fin 16384) (k : Fin m) :
    rowBlk m ⟨b.val / 2048, by omega⟩ X (ix2 (⟨b.val % 2048, by omega⟩ : Fin 2048) k) = X (ix2 b k) := by
  unfold rowBlk
  exact congrArg (fun r => X (ix2 r k)) (Fin.ext (by show b.val / 2048 * 2048 + b.val % 2048 = b.val; omega))

/-- The kernel's result for batch row b. -/
theorem result_apply (a0 : FVec Ideal S16384x13 .f32) (x : IVec S16384x26 32) (E : FVec Ideal S26x100000x16 .f32) (w1 : FVec Ideal S429x128 .f32)
    (b1 : FVec Ideal S128 .f32) (w2 : FVec Ideal S128x64 .f32) (b2 : FVec Ideal S64 .f32) (w3 : FVec Ideal S64x1 .f32) (b3 : FVec Ideal S1 .f32)
    (b : Fin 16384) : result (F := Ideal) a0 x E w1 b1 w2 b2 w3 b3 (ix2 b (0 : Fin 1))
      = logit (feat (fun k => a0 (ix2 b k)) (fun q => emb (F := Ideal) x E (ix2 b q))) w1 b1 w2 b2 w3 b3 := by
  unfold result mlpOut
  refine (block_apply _ _ _ _ b1 w2 b2 w3 b3 ⟨b.val % 2048, by omega⟩).trans ?_
  unfold logit
  refine congrArg (fun v => dense (relu (dense (relu v) w2 b2)) w3 b3 0) (funext fun c => ?_)
  rw [dense_feat]
  refine congrArg (· + b1 (ix1 c)) (congrArg₂ (· + ·) (Finset.sum_congr rfl fun k _ => ?_) (Finset.sum_congr rfl fun k _ => ?_))
  · exact congrArg₂ (· * ·) (rowBlk_apply 416 _ b k) (extractStridedSlice_apply _ _ _ (ix2 k c) (ix2 (⟨13 + k.val, by omega⟩ : Fin 429) c)
      (fun a => match a with | ⟨0, _⟩ => rfl | ⟨1, _⟩ => (Nat.zero_add _).symm))
  · exact congrArg₂ (· * ·) (rowBlk_apply 13 _ b k) (extractStridedSlice_apply _ _ _ (ix2 k c) (ix2 (⟨k.val, by omega⟩ : Fin 429) c)
      (fun a => match a with | ⟨0, _⟩ => (Nat.zero_add _).symm | ⟨1, _⟩ => (Nat.zero_add _).symm))

end Cert.KernelIdeal.Proof

end
-- ==== Proof.Value.Lookup.lean ====
/-
  The reference's look-up read at an index: for batch row b, field f and component e it reads row x of field f's table,
  when x, the row's index for the field, is below 100000. The reference wraps negative numbers and its gather clamps; a
  number in the range passes both unchanged.
-/
module

public import proofs.«01_k».proof.Proof.Gen.ReferenceIdeal.Run
public import Idealize.ShloMosaic.Lib.Pipeline.Value
public import Idealize.ShloMosaic.Lib.Pointwise.Index

@[expose] public section

set_option maxRecDepth 16384

noncomputable section

namespace Cert.ReferenceIdeal.Proof

open Cert.ReferenceIdeal Cert.ReferenceIdeal.Gen
open Idealize.ShloMosaic

variable {F : FTy → Type}

/-! ## The numbers looked up -/

/-- The fields' numbers as a column, with negative ones wrapped. -/
def fieldCol : IVec S26x1 32 :=
  let I0 : IVec S26x1 32 := broadcastInDim S26x1 ![0] bcast_S26_S26x1_0 (iotaInDim S26 32 0)
  select (cmpi .slt I0 (broadcastInDim S26x1 ![] bcast_S_S26x1 (constantI S_ 32 0#32)))
    (addi I0 (broadcastInDim S26x1 ![] bcast_S_S26x1 (constantI S_ 32 26#32))) I0

/-- The batch's indices by field and row, with negative ones wrapped. -/
def wrapped (x : IVec S16384x26 32) : IVec S26x16384 32 :=
  let XT : IVec S26x16384 32 := transpose S26x16384 [1, 0] x transposes_S16384x26_S26x16384_1_0
  select (cmpi .slt XT (broadcastInDim S26x16384 ![] bcast_S_S26x16384 (constantI S_ 32 0#32)))
    (addi XT (broadcastInDim S26x16384 ![] bcast_S_S26x16384 (constantI S_ 32 100000#32))) XT

/-- The pairs (field, index) that the gather starts from. -/
def starts (x : IVec S16384x26 32) : IVec S26x16384x2 32 :=
  concatenate S26x16384x2 2
    [⟨S26x16384x1, broadcastInDim S26x16384x1 ![0, 1] bcast_S26x16384_S26x16384x1_0_1 (broadcastInDim S26x16384 ![0, 1] bcast_S26x1_S26x16384_0_1 fieldCol)⟩,
     ⟨S26x16384x1, broadcastInDim S26x16384x1 ![0, 1] bcast_S26x16384_S26x16384x1_0_1 (wrapped x)⟩]
    concatenates_S26x16384x1_S26x16384x1_S26x16384x2_d2

/-- A word below 2³¹ is not negative, so the wrap leaves it. -/
theorem wrap_small (w k : BitVec 32) (h : w.toNat < 2 ^ 31) : Scalar.select (IntOp.cmpi .slt w 0#32) (IntOp.addi w k) w = w := by
  have e : IntOp.cmpi .slt w 0#32 = 0#1 := by
    have hs : w.slt 0#32 = false := by
      rw [BitVec.slt_eq_decide, decide_eq_false_iff_not, BitVec.toInt_eq_toNat_cond, BitVec.toInt_eq_toNat_cond]
      simp only [BitVec.toNat_ofNat]
      omega
    show BitVec.ofBool (w.slt 0#32) = 0#1
    rw [hs]; rfl
  rw [e]; rfl

/-- Such a word read as a signed number is its natural number. -/
theorem toInt_small (w : BitVec 32) (h : w.toNat < 2 ^ 31) : w.toInt.toNat = w.toNat := by
  rw [BitVec.toInt_eq_toNat_cond]; omega

/-- The column holds each field's number. -/
theorem fieldCol_apply (f : Fin 26) : fieldCol (ix2 f (0 : Fin 1)) = BitVec.ofNat 32 f.val := by
  have e : broadcastInDim S26x1 ![0] bcast_S26_S26x1_0 (iotaInDim S26 32 0) (ix2 f (0 : Fin 1)) = BitVec.ofNat 32 f.val :=
    broadcastInDim_apply _ _ _ (ix2 f (0 : Fin 1)) (ix1 f) (fun a => match a with | ⟨0, _⟩ => rfl)
  show Scalar.select (IntOp.cmpi .slt _ 0#32) (IntOp.addi _ 26#32) _ = _
  rw [e]
  exact wrap_small _ _ (by have := f.isLt; rw [BitVec.toNat_ofNat]; omega)

/-- The wrapped indices are the indices. -/
theorem wrapped_apply (x : IVec S16384x26 32) (hx : ∀ i, (x i).toNat < 100000) (f : Fin 26) (b : Fin 16384) :
    wrapped x (ix2 f b) = x (ix2 b f) := by
  have e : transpose S26x16384 [1, 0] x transposes_S16384x26_S26x16384_1_0 (ix2 f b) = x (ix2 b f) :=
    transpose_apply _ _ _ (ix2 f b) (ix2 b f) (fun a => match a with | ⟨0, _⟩ => rfl | ⟨1, _⟩ => rfl)
  show Scalar.select (IntOp.cmpi .slt _ 0#32) (IntOp.addi _ 100000#32) _ = _
  rw [e]
  exact wrap_small _ _ (by have := hx (ix2 b f); omega)

/-- The first number of a pair is the field. -/
theorem starts_field (x : IVec S16384x26 32) (f : Fin 26) (b : Fin 16384) : starts x (ix3 f b (0 : Fin 2)) = BitVec.ofNat 32 f.val := by
  unfold starts
  refine (concatenate_pair_apply_left (t := S26x16384x2) (s₁ := S26x16384x1) (s₂ := S26x16384x1) 2 _ _ _ (ix3 f b (0 : Fin 2)) rfl (ix3 f b (0 : Fin 1)) (fun a => match a with | ⟨0, _⟩ => rfl | ⟨1, _⟩ => rfl | ⟨2, _⟩ => rfl)).trans ?_
  refine (broadcastInDim_apply _ _ _ _ (ix2 f b) (fun a => match a with | ⟨0, _⟩ => rfl | ⟨1, _⟩ => rfl)).trans ?_
  refine (broadcastInDim_apply _ _ _ _ (ix2 f (0 : Fin 1)) (fun a => match a with | ⟨0, _⟩ => rfl | ⟨1, _⟩ => rfl)).trans ?_
  exact fieldCol_apply f

/-- The second number of a pair is the index. -/
theorem starts_index (x : IVec S16384x26 32) (hx : ∀ i, (x i).toNat < 100000) (f : Fin 26) (b : Fin 16384) :
    starts x (ix3 f b (1 : Fin 2)) = x (ix2 b f) := by
  unfold starts
  refine (concatenate_pair_apply_right (t := S26x16384x2) (s₁ := S26x16384x1) (s₂ := S26x16384x1) 2 _ _ _ (ix3 f b (1 : Fin 2)) rfl rfl (ix3 f b (0 : Fin 1)) (fun a ha => match a, ha with
    | ⟨0, _⟩, _ => rfl | ⟨1, _⟩, _ => rfl | ⟨2, _⟩, h => absurd rfl h) rfl).trans ?_
  refine (broadcastInDim_apply _ _ _ _ (ix2 f b) (fun a => match a with | ⟨0, _⟩ => rfl | ⟨1, _⟩ => rfl)).trans ?_
  exact wrapped_apply x hx f b

/-! ## The gather -/

/-- The gather's dimension numbers. -/
abbrev gd : GatherDims S26x100000x16 S26x16384x2 S26x16384x16 := gather_S26x100000x16_S26x16384x2_S26x16384x16_2_01_n_n_01_2_1116

/-- Component 0 of the start of result (f, b, e) lies at (f, b, 0) of the pairs. -/
theorem siIdx_field (f : Fin 26) (b : Fin 16384) (e : Fin 16) (h : List.idxOf (0 : Fin 3) gd.startIndexMap < gd.startIndexMap.length) :
    gd.siIdx (ix3 f b e) ⟨List.idxOf (0 : Fin 3) gd.startIndexMap, h⟩ = ix3 f b (0 : Fin 2) :=
  funext fun a => Fin.ext (match a with | ⟨0, _⟩ => rfl | ⟨1, _⟩ => rfl | ⟨2, _⟩ => rfl)

/-- Component 1 lies at (f, b, 1). -/
theorem siIdx_index (f : Fin 26) (b : Fin 16384) (e : Fin 16) (h : List.idxOf (1 : Fin 3) gd.startIndexMap < gd.startIndexMap.length) :
    gd.siIdx (ix3 f b e) ⟨List.idxOf (1 : Fin 3) gd.startIndexMap, h⟩ = ix3 f b (1 : Fin 2) :=
  funext fun a => Fin.ext (match a with | ⟨0, _⟩ => rfl | ⟨1, _⟩ => rfl | ⟨2, _⟩ => rfl)

/-- The gather reads, for field f and batch row b, the table's row that the index names. -/
theorem gather_apply (E : S26x100000x16.Idx → Elt F .f32) (x : IVec S16384x26 32) (hx : ∀ i, (x i).toNat < 100000) (f : Fin 26)
    (b : Fin 16384) (e : Fin 16) :
    Host.gather gd E (starts x) (ix3 f b e) = E (ix3 f ⟨(x (ix2 b f)).toNat, hx _⟩ e) := by
  unfold Host.gather
  refine congrArg E (funext fun a => Fin.ext ?_)
  have nb : ∀ a' : Fin 3, a' ∉ gd.operandBatchingDims := fun a' => List.not_mem_nil
  show gd.start (ix3 f b e) (starts x) a + gd.batchCoord (ix3 f b e) a + gd.offCoord (ix3 f b e) a = _
  rw [gd.batchCoord_eq_zero _ _ (nb a), Nat.add_zero]
  have h3 : a = 0 ∨ a = 1 ∨ a = 2 := match a with
    | ⟨0, _⟩ => Or.inl rfl
    | ⟨1, _⟩ => Or.inr (Or.inl rfl)
    | ⟨2, _⟩ => Or.inr (Or.inr rfl)
  rcases h3 with rfl | rfl | rfl
  · rw [gd.offCoord_eq_zero _ _ (by decide), Nat.add_zero]
    unfold GatherDims.start
    rw [dif_pos (by decide)]
    refine (congrArg (fun i => min (starts x i).toInt.toNat _) (siIdx_field f b e _)).trans ?_
    rw [starts_field, toInt_small _ (by have := f.isLt; rw [BitVec.toNat_ofNat]; omega), BitVec.toNat_ofNat]
    have := f.isLt
    show min (f.val % 2 ^ 32) 25 = f.val
    omega
  · rw [gd.offCoord_eq_zero _ _ (by decide), Nat.add_zero]
    unfold GatherDims.start
    rw [dif_pos (by decide)]
    refine (congrArg (fun i => min (starts x i).toInt.toNat _) (siIdx_index f b e _)).trans ?_
    have := hx (ix2 b f)
    rw [starts_index x hx, toInt_small _ (by omega)]
    show min (x (ix2 b f)).toNat 99999 = (x (ix2 b f)).toNat
    omega
  · unfold GatherDims.start
    rw [dif_neg (by decide), Nat.zero_add]
    rfl

/-! ## The embedding -/

/-- The reference's embeddings, one row of 416 numbers for each batch row. -/
def refEmb (E : S26x100000x16.Idx → Elt F .f32) (x : IVec S16384x26 32) : S16384x416.Idx → Elt F .f32 :=
  shapeCast S16384x416 (transpose S16384x26x16 [1, 0, 2] (Host.gather gd E (starts x)) transposes_S26x16384x16_S16384x26x16_1_0_2)
    shapeCasts_S16384x26x16_S16384x416

/-- Place q of batch row b is component q mod 16 of field q / 16's embedding. -/
theorem refEmb_apply (E : S26x100000x16.Idx → Elt F .f32) (x : IVec S16384x26 32) (hx : ∀ i, (x i).toNat < 100000) (b : Fin 16384)
    (q : Fin 416) : refEmb E x (ix2 b q)
      = E (ix3 (⟨q.val / 16, by omega⟩ : Fin 26) ⟨(x (ix2 b (⟨q.val / 16, by omega⟩ : Fin 26))).toNat, hx _⟩ (⟨q.val % 16, by omega⟩ : Fin 16)) := by
  unfold refEmb
  refine (shapeCast_apply _ _ (ix2 b q) (ix3 b (⟨q.val / 16, by omega⟩ : Fin 26) (⟨q.val % 16, by omega⟩ : Fin 16)) ?_).trans ?_
  · rw [Shape.rowMajor_val_two, Shape.rowMajor_val_three]
    show (b.val * 26 + q.val / 16) * 16 + q.val % 16 = b.val * 416 + q.val
    omega
  refine (transpose_apply _ _ _ _ (ix3 (⟨q.val / 16, by omega⟩ : Fin 26) b (⟨q.val % 16, by omega⟩ : Fin 16))
    (fun a => match a with | ⟨0, _⟩ => rfl | ⟨1, _⟩ => rfl | ⟨2, _⟩ => rfl)).trans ?_
  exact gather_apply E x hx _ _ _

end Cert.ReferenceIdeal.Proof

end
-- ==== Proof.Value.Reference.lean ====
/-
  The reference's result, index by index: the perceptron's number for the row's features, the numeric ones followed by the
  embeddings looked up.
-/
module

public import proofs.«01_k».proof.Proof.Value.Lookup
public import proofs.«01_k».proof.Proof.Value.Logit
public import Idealize.ShloMosaic.Lib.StackMember

@[expose] public section

set_option maxRecDepth 16384

noncomputable section

namespace Cert.ReferenceIdeal.Proof

open Cert.ReferenceIdeal Cert.ReferenceIdeal.Gen Cert.Value
open Idealize.ShloMosaic
open scoped BigOperators

/-- The features of every row, as the reference lays them side by side. -/
def refFeat (a0 : FVec Ideal S16384x13 .f32) (x : IVec S16384x26 32) (E : FVec Ideal S26x100000x16 .f32) : FVec Ideal S16384x429 .f32 :=
  concatenate S16384x429 1 [⟨S16384x13, a0⟩, ⟨S16384x416, refEmb (F := Ideal) E x⟩] concatenates_S16384x13_S16384x416_S16384x429_d1

/-- The first layer of every row. -/
def layer1 (v : FVec Ideal S16384x429 .f32) (w : FVec Ideal S429x128 .f32) (b : FVec Ideal S128 .f32) : FVec Ideal S16384x128 .f32 :=
  addf (Host.dotGeneral dot_S16384x429_S429x128_S16384x128_1_0_0_1_n_n none v w)
    (broadcastInDim S16384x128 ![0, 1] bcast_S1x128_S16384x128_0_1 (broadcastInDim S1x128 ![1] bcast_S128_S1x128_1 b))

/-- The second layer of every row. -/
def layer2 (v : FVec Ideal S16384x128 .f32) (w : FVec Ideal S128x64 .f32) (b : FVec Ideal S64 .f32) : FVec Ideal S16384x64 .f32 :=
  addf (Host.dotGeneral dot_S16384x128_S128x64_S16384x64_1_0_0_1_n_n none v w)
    (broadcastInDim S16384x64 ![0, 1] bcast_S1x64_S16384x64_0_1 (broadcastInDim S1x64 ![1] bcast_S64_S1x64_1 b))

/-- The last layer of every row. -/
def layer3 (v : FVec Ideal S16384x64 .f32) (w : FVec Ideal S64x1 .f32) (b : FVec Ideal S1 .f32) : FVec Ideal S16384x1 .f32 :=
  addf (Host.dotGeneral dot_S16384x64_S64x1_S16384x1_1_0_0_1_n_n none v w)
    (broadcastInDim S16384x1 ![0, 1] bcast_S1x1_S16384x1_0_1 (broadcastInDim S1x1 ![1] bcast_S1_S1x1_1 b))

/-- The reference's result. -/
def refResult (a0 : FVec Ideal S16384x13 .f32) (x : IVec S16384x26 32) (E : FVec Ideal S26x100000x16 .f32) (w1 : FVec Ideal S429x128 .f32)
    (b1 : FVec Ideal S128 .f32) (w2 : FVec Ideal S128x64 .f32) (b2 : FVec Ideal S64 .f32) (w3 : FVec Ideal S64x1 .f32) (b3 : FVec Ideal S1 .f32) :
    FVec Ideal S16384x1 .f32 :=
  layer3 (maximumf (layer2 (maximumf (layer1 (refFeat a0 x E) w1 b1)
      (broadcastInDim S16384x128 ![] bcast_S_S16384x128 (constant S_ .f32 0x00000000#32))) w2 b2)
    (broadcastInDim S16384x64 ![] bcast_S_S16384x64 (constant S_ .f32 0x00000000#32))) w3 b3

/-! ## At an index -/

/-- A product of a matrix with rows and one with columns, plus a bias repeated down the rows, is a layer of each row. -/
theorem dense_apply {M K N : ℕ} (v : FVec Ideal ⟨2, ![M, K]⟩ .f32) (w : FVec Ideal ⟨2, ![K, N]⟩ .f32) (bb : FVec Ideal ⟨2, ![M, N]⟩ .f32)
    (b : FVec Ideal ⟨1, ![N]⟩ .f32) (r : Fin M) (c : Fin N) (u : Fin K → EReal) (hu : ∀ k, v (ix2 r k) = u k) (hb : bb (ix2 r c) = b (ix1 c)) :
    addf (Host.dotGeneral (DotDims.plain M K N) none v w) bb (ix2 r c) = dense u w b c := by
  show Host.dotGeneral (DotDims.plain M K N) none v w (ix2 r c) + bb (ix2 r c) = _
  refine (congrArg₂ (· + ·) (StackMember.dotGeneral_plain_apply none v w r c) hb).trans ?_
  unfold dense
  exact congrArg (· + b (ix1 c)) (Finset.sum_congr rfl fun k _ => congrArg (· * w (ix2 k c)) (hu k))

/-- The greater of an entry and the constant zero. -/
theorem relu_apply {M N : ℕ} (v z : FVec Ideal ⟨2, ![M, N]⟩ .f32) (r : Fin M) (c : Fin N) (u : Fin N → EReal) (hu : v (ix2 r c) = u c)
    (hz : z (ix2 r c) = 0) : maximumf v z (ix2 r c) = relu u c := by
  show max (v (ix2 r c)) (z (ix2 r c)) = max (u c) 0
  rw [hu, hz]

/-- A row's features: the 13 numeric ones, then the 416 of its embeddings. -/
theorem refFeat_apply (a0 : FVec Ideal S16384x13 .f32) (x : IVec S16384x26 32) (E : FVec Ideal S26x100000x16 .f32) (b : Fin 16384) (k : Fin 429) :
    refFeat a0 x E (ix2 b k) = feat (fun k => a0 (ix2 b k)) (fun q => refEmb (F := Ideal) E x (ix2 b q)) k := by
  unfold refFeat feat
  split
  · next h =>
    exact concatenate_pair_apply_left (t := S16384x429) (s₁ := S16384x13) (s₂ := S16384x416) 1 _ _ _ (ix2 b k) rfl
      (ix2 b (⟨k.val, h⟩ : Fin 13)) (fun a => match a with | ⟨0, _⟩ => rfl | ⟨1, _⟩ => rfl)
  · next h =>
    exact concatenate_pair_apply_right (t := S16384x429) (s₁ := S16384x13) (s₂ := S16384x416) 1 _ _ _ (ix2 b k) rfl rfl
      (ix2 b (⟨k.val - 13, by omega⟩ : Fin 416)) (fun a ha => match a, ha with | ⟨0, _⟩, _ => rfl | ⟨1, _⟩, h => absurd rfl h)
      (by show k.val - 13 + 13 = k.val; omega)

/-- The reference's result for batch row b. -/
theorem refResult_apply (a0 : FVec Ideal S16384x13 .f32) (x : IVec S16384x26 32) (E : FVec Ideal S26x100000x16 .f32) (w1 : FVec Ideal S429x128 .f32)
    (b1 : FVec Ideal S128 .f32) (w2 : FVec Ideal S128x64 .f32) (b2 : FVec Ideal S64 .f32) (w3 : FVec Ideal S64x1 .f32) (b3 : FVec Ideal S1 .f32)
    (b : Fin 16384) : refResult a0 x E w1 b1 w2 b2 w3 b3 (ix2 b (0 : Fin 1))
      = logit (feat (fun k => a0 (ix2 b k)) (fun q => refEmb (F := Ideal) E x (ix2 b q))) w1 b1 w2 b2 w3 b3 := by
  unfold refResult logit layer3
  refine dense_apply (M := 16384) (K := 64) (N := 1) _ w3 _ b3 b 0 _ (fun k => ?_)
    ((broadcastInDim_apply _ _ _ (ix2 b (0 : Fin 1)) (ix2 (0 : Fin 1) (0 : Fin 1)) (fun a => match a with | ⟨0, _⟩ => rfl | ⟨1, _⟩ => rfl)).trans
      (broadcastInDim_apply _ _ _ _ (ix1 (0 : Fin 1)) (fun a => match a with | ⟨0, _⟩ => rfl)))
  refine relu_apply _ _ b k _ ?_ Ideal.ofBits_zero_f32
  unfold layer2
  refine dense_apply (M := 16384) (K := 128) (N := 64) _ w2 _ b2 b k _ (fun k' => ?_)
    ((broadcastInDim_apply _ _ _ (ix2 b k) (ix2 (0 : Fin 1) k) (fun a => match a with | ⟨0, _⟩ => rfl | ⟨1, _⟩ => rfl)).trans
      (broadcastInDim_apply _ _ _ _ (ix1 k) (fun a => match a with | ⟨0, _⟩ => rfl)))
  refine relu_apply _ _ b k' _ ?_ Ideal.ofBits_zero_f32
  unfold layer1
  exact dense_apply (M := 16384) (K := 429) (N := 128) _ w1 _ b1 b k' _ (fun q => refFeat_apply a0 x E b q)
    ((broadcastInDim_apply _ _ _ (ix2 b k') (ix2 (0 : Fin 1) k') (fun a => match a with | ⟨0, _⟩ => rfl | ⟨1, _⟩ => rfl)).trans
      (broadcastInDim_apply _ _ _ _ (ix1 k') (fun a => match a with | ⟨0, _⟩ => rfl)))

end Cert.ReferenceIdeal.Proof

end
-- ==== Proof.Value.Equation.lean ====
/-
  The equation: with every index in the range the kernel and the reference compute the same array over the reals.
-/
module

public import proofs.«01_k».proof.Proof.Value.Kernel
public import proofs.«01_k».proof.Proof.Value.Reference
public import proofs.«01_k».proof.Proof.Frames

@[expose] public section

set_option maxRecDepth 16384

noncomputable section

namespace Cert.Proof

open Idealize.ShloMosaic Idealize.SL.Sem Cert.KernelIdeal Cert.Value

/-- The two results are equal, row by row: the same three layers of the same features. -/
theorem results_eq (a0 : FVec Ideal S16384x13 .f32) (x : IVec S16384x26 32) (E : FVec Ideal S26x100000x16 .f32) (w1 : FVec Ideal S429x128 .f32)
    (b1 : FVec Ideal S128 .f32) (w2 : FVec Ideal S128x64 .f32) (b2 : FVec Ideal S64 .f32) (w3 : FVec Ideal S64x1 .f32) (b3 : FVec Ideal S1 .f32)
    (hx : ∀ i, (x i).toNat < 100000) :
    Cert.ReferenceIdeal.Proof.refResult a0 x E w1 b1 w2 b2 w3 b3 = Cert.KernelIdeal.Proof.result (F := Ideal) a0 x E w1 b1 w2 b2 w3 b3 := by
  funext j
  have ej : j = ix2 (⟨(j 0).val, (j 0).isLt⟩ : Fin 16384) (0 : Fin 1) := funext fun a => Fin.ext (match a with
    | ⟨0, _⟩ => rfl
    | ⟨1, _⟩ => by have : (j 1).val < 1 := (j 1).isLt; show (j 1).val = 0; omega)
  rw [ej]
  refine (Cert.ReferenceIdeal.Proof.refResult_apply a0 x E w1 b1 w2 b2 w3 b3 _).trans (Eq.trans ?_ (Cert.KernelIdeal.Proof.result_apply a0 x E w1 b1 w2 b2 w3 b3 _).symm)
  refine congrArg (fun e => logit (feat _ e) w1 b1 w2 b2 w3 b3) (funext fun q => ?_)
  exact (Cert.ReferenceIdeal.Proof.refEmb_apply (F := Ideal) E x hx _ q).trans (Cert.KernelIdeal.Proof.emb_apply E x hx _ q).symm

/-- The value claim. -/
theorem value : Cert.algebraic_KernelIdeal_ReferenceIdeal := fun m ρ m' ρ' hpre hargs => by
  refine ⟨fun c => Cert.KernelIdeal.Proof.result (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)), ?_, ?_⟩
  · exact (θ_run Cert.KernelIdeal.defs _ _).mono (fun _ h c => ⟨h.2.1 c, h.1 c _ (by decide) rfl, h.1 c _ (by decide) rfl, h.1 c _ (by decide) rfl,
      h.1 c _ (by decide) rfl, h.1 c _ (by decide) rfl, h.1 c _ (by decide) rfl, h.1 c _ (by decide) rfl, h.1 c _ (by decide) rfl,
      h.1 c _ (by decide) rfl⟩) (Cert.KernelIdeal.Proof.run_values (F := Ideal) m ρ (exact_ok m hpre))
  · refine (θ_run Cert.ReferenceIdeal.defs _ _).mono (fun r h c => ⟨?_, (h c).2⟩) (Cert.ReferenceIdeal.Value.run (F := Ideal) m' ρ')
    obtain ⟨e0, e1, e2, e3, e4, e5, e6, e7, e8⟩ := hargs c
    have hv : r.2.mem ((c.tc : Thread Cert.ReferenceIdeal.nD Cert.ReferenceIdeal.τ).loc Cert.ReferenceIdeal.main_v34)
        = Cert.ReferenceIdeal.Proof.refResult (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
            (m' ((c.tc : Thread Cert.ReferenceIdeal.nD Cert.ReferenceIdeal.τ).loc Cert.ReferenceIdeal.main_arg6))
            (m' ((c.tc : Thread Cert.ReferenceIdeal.nD Cert.ReferenceIdeal.τ).loc Cert.ReferenceIdeal.main_arg7))
            (m' ((c.tc : Thread Cert.ReferenceIdeal.nD Cert.ReferenceIdeal.τ).loc Cert.ReferenceIdeal.main_arg8)) := (h c).1
    refine hv.trans ?_
    rw [e0, e1, e2, e3, e4, e5, e6, e7, e8]
    exact results_eq _ _ _ _ _ _ _ _ _ (fun i => exact_ok m hpre c i)

end Cert.Proof

end
-- ==== Proof.lean ====
/-
  The certificate. Five claims:
  * the kernel on machine words runs to the end, leaves its arguments as they were and every semaphore at zero;
  * so does the kernel over the extended reals;
  * so does the reference;
  * the kernel over the reals is the kernel's own program, with no operation rewritten;
  * from equal arguments, with every index below 100000, kernel and reference end with equal results over the reals.
  The launch is in Word/ (machine words) and Exact/ (reals), what either side's result is in Value/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_vocab
public import proofs.«01_k».proof.Proof.Frames
public import proofs.«01_k».proof.Proof.Value.Equation

@[expose] public section

noncomputable section

namespace Cert.Proof

open Idealize.ShloMosaic Idealize.SL.Sem Cert.Kernel

/-- All five claims hold. -/
theorem claim : Cert.Claim := ⟨Cert.Kernel.Gen.facts, Cert.KernelIdeal.Gen.facts, Cert.ReferenceIdeal.Gen.facts, Cert.Pre_in_vocab.Gen.facts,
  frame_word, frame_exact, frame_reference, trivial, value⟩

end Cert.Proof

end
